-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x4x64 .f32 := (extf .f32 · bitsLt_bf16_f32) main_arg2
  let main_v12 : FVec F S2x128x4x64 .f32 := Host.absf main_v11
  let main_cst_2 : FVec F S_ .f32 := constant S_ .f32 0x7F800000#32
  let main_v13 : FVec F S2x128x4x64 .f32 := broadcastInDim S2x128x4x64 ![] bcast_S_S2x128x4x64 main_cst_2
  let main_v14 : IVec S2x128x4x64 1 := cmpf .olt main_v12 main_v13
  let main_c_3 : IVec S_ 1 := constantI S_ 1 1#1
  let main_v15 : IVec S_ 1 := (fun x v => Host.reduce IntOp.andi x v reducesTo_S2x128x4x64_S_d0_1_2_3 h_S_) main_v14 main_c_3
  let main_v16 : IVec S_ 1 := andi main_v10 main_v15
  main_v16
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x2048x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x2048x4x64 .f32 := (extf .f32 · bitsLt_bf16_f32) main_arg2
  let main_v12 : FVec F S2x2048x4x64 .f32 := Host.absf main_v11
  let main_cst_2 : FVec F S_ .f32 := constant S_ .f32 0x7F800000#32
  let main_v13 : FVec F S2x2048x4x64 .f32 := broadcastInDim S2x2048x4x64 ![] bcast_S_S2x2048x4x64 main_cst_2
  let main_v14 : IVec S2x2048x4x64 1 := cmpf .olt main_v12 main_v13
  let main_c_3 : IVec S_ 1 := constantI S_ 1 1#1
  let main_v15 : IVec S_ 1 := (fun x v => Host.reduce IntOp.andi x v reducesTo_S2x2048x4x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S16x2x2x128x4x64 : Shape := ⟨6, ![16, 2, 2, 128, 4, 64]⟩
abbrev S15 : Shape := ⟨1, ![15]⟩
abbrev S_ : Shape := ⟨0, ![]⟩
abbrev S1x1x2x128x4x64 : Shape := ⟨6, ![1, 1, 2, 128, 4, 64]⟩
abbrev S1 : Shape := ⟨1, ![1]⟩
abbrev S1x2x2x128x4x64 : Shape := ⟨6, ![1, 2, 2, 128, 4, 64]⟩
abbrev S2x2x128x4x64 : Shape := ⟨5, ![2, 2, 128, 4, 64]⟩
abbrev S128x2048 : Shape := ⟨2, ![128, 2048]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S16x1x1x128x1x64 : Shape := ⟨6, ![16, 1, 1, 128, 1, 64]⟩
abbrev S16x128x64 : Shape := ⟨3, ![16, 128, 64]⟩
abbrev S2048x64 : Shape := ⟨2, ![2048, 64]⟩
abbrev S128 : Shape := ⟨1, ![128]⟩
abbrev S128x1 : Shape := ⟨2, ![128, 1]⟩
abbrev S64x512 : Shape := ⟨2, ![64, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S16x2x2x128x4x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11 : BitVec 32 := 1#32
  let v13 : BitVec 32 := Scalar.muli v5 c1_i32_11
  let v14 : BitVec 32 := Scalar.addi c0_i32 v13
  v14.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_13 : BitVec 32 := 1#32
  let v15 : BitVec 32 := Scalar.muli v7 c1_i32_13
  let v16 : BitVec 32 := Scalar.addi c0_i32_14 v15
  v16.toNat
def k0_off1 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v19 : Index := Scalar.indexCast v2
  let c0_19 : Index := 0#32
  let c0_20 : Index := 0#32
  let c0_21 : Index := 0#32
  let c0_22 : Index := 0#32
  let c0_23 : Index := 0#32
  ![v19.toNat, 0, 0, 0, 0, 0]
def k0_off2 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v25 : Index := Scalar.indexCast v2
  let c1 : Index := 1#32
  let c0_28 : Index := 0#32
  let c0_29 : Index := 0#32
  let c0_30 : Index := 0#32
  let c0_31 : Index := 0#32
  ![v25.toNat, 1, 0, 0, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  let v29 : BitVec 32 := Scalar.subi v2 c0_i32_32
  let c0_i32_33 : BitVec 32 := 0#32
  let v30 : BitVec 1 := Scalar.cmpi .sge v29 c0_i32_33
  let c15_i32 : BitVec 32 := 15#32
  let v31 : BitVec 1 := Scalar.cmpi .slt v2 c15_i32
  let v32 : BitVec 1 := Scalar.andi v30 v31
  let v35 : BitVec 32 := Scalar.extui v32
  let c0_i32_36 : BitVec 32 := 0#32
  let v36 : BitVec 1 := Scalar.cmpi .ne v35 c0_i32_36
  v36

def k0_off3 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_320 : BitVec 32 := 0#32
  let v482 : BitVec 32 := Scalar.subi v2 c0_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev3 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v33 : BitVec 32 := Scalar.subi v2 c0_i32_34
  let c1_i32_35 : BitVec 32 := 1#32
  let v34 : BitVec 1 := Scalar.cmpi .sge v33 c1_i32_35
  let v37 : BitVec 32 := Scalar.extui v34
  let c0_i32_37 : BitVec 32 := 0#32
  let v38 : BitVec 1 := Scalar.cmpi .ne v37 c0_i32_37
  v38

def k0_off4 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c0_i32_322 : BitVec 32 := 0#32
  let v484 : BitVec 32 := Scalar.subi v483 c0_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_38 : BitVec 32 := 1#32
  let v39 : BitVec 32 := Scalar.subi v2 c1_i32_38
  let c0_i32_39 : BitVec 32 := 0#32
  let v40 : BitVec 1 := Scalar.cmpi .sge v39 c0_i32_39
  let c15_i32_40 : BitVec 32 := 15#32
  let v41 : BitVec 1 := Scalar.cmpi .slt v2 c15_i32_40
  let v42 : BitVec 1 := Scalar.andi v40 v41
  let v45 : BitVec 32 := Scalar.extui v42
  let c0_i32_43 : BitVec 32 := 0#32
  let v46 : BitVec 1 := Scalar.cmpi .ne v45 c0_i32_43
  v46

def k0_off5 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_320 : BitVec 32 := 1#32
  let v482 : BitVec 32 := Scalar.subi v2 c1_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev4 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v43 : BitVec 32 := Scalar.subi v2 c1_i32_41
  let c1_i32_42 : BitVec 32 := 1#32
  let v44 : BitVec 1 := Scalar.cmpi .sge v43 c1_i32_42
  let v47 : BitVec 32 := Scalar.extui v44
  let c0_i32_44 : BitVec 32 := 0#32
  let v48 : BitVec 1 := Scalar.cmpi .ne v47 c0_i32_44
  v48

def k0_off6 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c1_i32_322 : BitVec 32 := 1#32
  let v484 : BitVec 32 := Scalar.subi v483 c1_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_45 : BitVec 32 := 2#32
  let v49 : BitVec 32 := Scalar.subi v2 c2_i32_45
  let c0_i32_46 : BitVec 32 := 0#32
  let v50 : BitVec 1 := Scalar.cmpi .sge v49 c0_i32_46
  let c15_i32_47 : BitVec 32 := 15#32
  let v51 : BitVec 1 := Scalar.cmpi .slt v2 c15_i32_47
  let v52 : BitVec 1 := Scalar.andi v50 v51
  let v55 : BitVec 32 := Scalar.extui v52
  let c0_i32_50 : BitVec 32 := 0#32
  let v56 : BitVec 1 := Scalar.cmpi .ne v55 c0_i32_50
  v56

def k0_off7 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_320 : BitVec 32 := 2#32
  let v482 : BitVec 32 := Scalar.subi v2 c2_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev5 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_48 : BitVec 32 := 2#32
  let v53 : BitVec 32 := Scalar.subi v2 c2_i32_48
  let c1_i32_49 : BitVec 32 := 1#32
  let v54 : BitVec 1 := Scalar.cmpi .sge v53 c1_i32_49
  let v57 : BitVec 32 := Scalar.extui v54
  let c0_i32_51 : BitVec 32 := 0#32
  let v58 : BitVec 1 := Scalar.cmpi .ne v57 c0_i32_51
  v58

def k0_off8 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c2_i32_322 : BitVec 32 := 2#32
  let v484 : BitVec 32 := Scalar.subi v483 c2_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v59 : BitVec 32 := Scalar.subi v2 c3_i32
  let c0_i32_52 : BitVec 32 := 0#32
  let v60 : BitVec 1 := Scalar.cmpi .sge v59 c0_i32_52
  let c15_i32_53 : BitVec 32 := 15#32
  let v61 : BitVec 1 := Scalar.cmpi .slt v2 c15_i32_53
  let v62 : BitVec 1 := Scalar.andi v60 v61
  let v65 : BitVec 32 := Scalar.extui v62
  let c0_i32_56 : BitVec 32 := 0#32
  let v66 : BitVec 1 := Scalar.cmpi .ne v65 c0_i32_56
  v66

def k0_off9 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_320 : BitVec 32 := 3#32
  let v482 : BitVec 32 := Scalar.subi v2 c3_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev6 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_54 : BitVec 32 := 3#32
  let v63 : BitVec 32 := Scalar.subi v2 c3_i32_54
  let c1_i32_55 : BitVec 32 := 1#32
  let v64 : BitVec 1 := Scalar.cmpi .sge v63 c1_i32_55
  let v67 : BitVec 32 := Scalar.extui v64
  let c0_i32_57 : BitVec 32 := 0#32
  let v68 : BitVec 1 := Scalar.cmpi .ne v67 c0_i32_57
  v68

def k0_off10 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c3_i32_322 : BitVec 32 := 3#32
  let v484 : BitVec 32 := Scalar.subi v483 c3_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v69 : BitVec 32 := Scalar.subi v2 c4_i32
  let c0_i32_58 : BitVec 32 := 0#32
  let v70 : BitVec 1 := Scalar.cmpi .sge v69 c0_i32_58
  let c15_i32_59 : BitVec 32 := 15#32
  let v71 : BitVec 1 := Scalar.cmpi .slt v2 c15_i32_59
  let v72 : BitVec 1 := Scalar.andi v70 v71
  let v75 : BitVec 32 := Scalar.extui v72
  let c0_i32_62 : BitVec 32 := 0#32
  let v76 : BitVec 1 := Scalar.cmpi .ne v75 c0_i32_62
  v76

def k0_off11 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_320 : BitVec 32 := 4#32
  let v482 : BitVec 32 := Scalar.subi v2 c4_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev7 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v73 : BitVec 32 := Scalar.subi v2 c4_i32_60
  let c1_i32_61 : BitVec 32 := 1#32
  let v74 : BitVec 1 := Scalar.cmpi .sge v73 c1_i32_61
  let v77 : BitVec 32 := Scalar.extui v74
  let c0_i32_63 : BitVec 32 := 0#32
  let v78 : BitVec 1 := Scalar.cmpi .ne v77 c0_i32_63
  v78

def k0_off12 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c4_i32_322 : BitVec 32 := 4#32
  let v484 : BitVec 32 := Scalar.subi v483 c4_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v79 : BitVec 32 := Scalar.subi v2 c5_i32
  let c0_i32_64 : BitVec 32 := 0#32
  let v80 : BitVec 1 := Scalar.cmpi .sge v79 c0_i32_64
  let c15_i32_65 : BitVec 32 := 15#32
  let v81 : BitVec 1 := Scalar.cmpi .slt v2 c15_i32_65
  let v82 : BitVec 1 := Scalar.andi v80 v81
  let v85 : BitVec 32 := Scalar.extui v82
  let c0_i32_68 : BitVec 32 := 0#32
  let v86 : BitVec 1 := Scalar.cmpi .ne v85 c0_i32_68
  v86

def k0_off13 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_320 : BitVec 32 := 5#32
  let v482 : BitVec 32 := Scalar.subi v2 c5_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev8 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_66 : BitVec 32 := 5#32
  let v83 : BitVec 32 := Scalar.subi v2 c5_i32_66
  let c1_i32_67 : BitVec 32 := 1#32
  let v84 : BitVec 1 := Scalar.cmpi .sge v83 c1_i32_67
  let v87 : BitVec 32 := Scalar.extui v84
  let c0_i32_69 : BitVec 32 := 0#32
  let v88 : BitVec 1 := Scalar.cmpi .ne v87 c0_i32_69
  v88

def k0_off14 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c5_i32_322 : BitVec 32 := 5#32
  let v484 : BitVec 32 := Scalar.subi v483 c5_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v89 : BitVec 32 := Scalar.subi v2 c6_i32
  let c0_i32_70 : BitVec 32 := 0#32
  let v90 : BitVec 1 := Scalar.cmpi .sge v89 c0_i32_70
  let c15_i32_71 : BitVec 32 := 15#32
  let v91 : BitVec 1 := Scalar.cmpi .slt v2 c15_i32_71
  let v92 : BitVec 1 := Scalar.andi v90 v91
  let v95 : BitVec 32 := Scalar.extui v92
  let c0_i32_74 : BitVec 32 := 0#32
  let v96 : BitVec 1 := Scalar.cmpi .ne v95 c0_i32_74
  v96

def k0_off15 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_320 : BitVec 32 := 6#32
  let v482 : BitVec 32 := Scalar.subi v2 c6_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev9 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_72 : BitVec 32 := 6#32
  let v93 : BitVec 32 := Scalar.subi v2 c6_i32_72
  let c1_i32_73 : BitVec 32 := 1#32
  let v94 : BitVec 1 := Scalar.cmpi .sge v93 c1_i32_73
  let v97 : BitVec 32 := Scalar.extui v94
  let c0_i32_75 : BitVec 32 := 0#32
  let v98 : BitVec 1 := Scalar.cmpi .ne v97 c0_i32_75
  v98

def k0_off16 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c6_i32_322 : BitVec 32 := 6#32
  let v484 : BitVec 32 := Scalar.subi v483 c6_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v99 : BitVec 32 := Scalar.subi v2 c7_i32
  let c0_i32_76 : BitVec 32 := 0#32
  let v100 : BitVec 1 := Scalar.cmpi .sge v99 c0_i32_76
  let c15_i32_77 : BitVec 32 := 15#32
  let v101 : BitVec 1 := Scalar.cmpi .slt v2 c15_i32_77
  let v102 : BitVec 1 := Scalar.andi v100 v101
  let v105 : BitVec 32 := Scalar.extui v102
  let c0_i32_80 : BitVec 32 := 0#32
  let v106 : BitVec 1 := Scalar.cmpi .ne v105 c0_i32_80
  v106

def k0_off17 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_320 : BitVec 32 := 7#32
  let v482 : BitVec 32 := Scalar.subi v2 c7_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev10 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_78 : BitVec 32 := 7#32
  let v103 : BitVec 32 := Scalar.subi v2 c7_i32_78
  let c1_i32_79 : BitVec 32 := 1#32
  let v104 : BitVec 1 := Scalar.cmpi .sge v103 c1_i32_79
  let v107 : BitVec 32 := Scalar.extui v104
  let c0_i32_81 : BitVec 32 := 0#32
  let v108 : BitVec 1 := Scalar.cmpi .ne v107 c0_i32_81
  v108

def k0_off18 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c7_i32_322 : BitVec 32 := 7#32
  let v484 : BitVec 32 := Scalar.subi v483 c7_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v109 : BitVec 32 := Scalar.subi v2 c8_i32
  let c0_i32_82 : BitVec 32 := 0#32
  let v110 : BitVec 1 := Scalar.cmpi .sge v109 c0_i32_82
  let c15_i32_83 : BitVec 32 := 15#32
  let v111 : BitVec 1 := Scalar.cmpi .slt v2 c15_i32_83
  let v112 : BitVec 1 := Scalar.andi v110 v111
  let v115 : BitVec 32 := Scalar.extui v112
  let c0_i32_86 : BitVec 32 := 0#32
  let v116 : BitVec 1 := Scalar.cmpi .ne v115 c0_i32_86
  v116

def k0_off19 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_320 : BitVec 32 := 8#32
  let v482 : BitVec 32 := Scalar.subi v2 c8_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev11 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_84 : BitVec 32 := 8#32
  let v113 : BitVec 32 := Scalar.subi v2 c8_i32_84
  let c1_i32_85 : BitVec 32 := 1#32
  let v114 : BitVec 1 := Scalar.cmpi .sge v113 c1_i32_85
  let v117 : BitVec 32 := Scalar.extui v114
  let c0_i32_87 : BitVec 32 := 0#32
  let v118 : BitVec 1 := Scalar.cmpi .ne v117 c0_i32_87
  v118

def k0_off20 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c8_i32_322 : BitVec 32 := 8#32
  let v484 : BitVec 32 := Scalar.subi v483 c8_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v119 : BitVec 32 := Scalar.subi v2 c9_i32
  let c0_i32_88 : BitVec 32 := 0#32
  let v120 : BitVec 1 := Scalar.cmpi .sge v119 c0_i32_88
  let c15_i32_89 : BitVec 32 := 15#32
  let v121 : BitVec 1 := Scalar.cmpi .slt v2 c15_i32_89
  let v122 : BitVec 1 := Scalar.andi v120 v121
  let v125 : BitVec 32 := Scalar.extui v122
  let c0_i32_92 : BitVec 32 := 0#32
  let v126 : BitVec 1 := Scalar.cmpi .ne v125 c0_i32_92
  v126

def k0_off21 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_320 : BitVec 32 := 9#32
  let v482 : BitVec 32 := Scalar.subi v2 c9_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev12 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_90 : BitVec 32 := 9#32
  let v123 : BitVec 32 := Scalar.subi v2 c9_i32_90
  let c1_i32_91 : BitVec 32 := 1#32
  let v124 : BitVec 1 := Scalar.cmpi .sge v123 c1_i32_91
  let v127 : BitVec 32 := Scalar.extui v124
  let c0_i32_93 : BitVec 32 := 0#32
  let v128 : BitVec 1 := Scalar.cmpi .ne v127 c0_i32_93
  v128

def k0_off22 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c9_i32_322 : BitVec 32 := 9#32
  let v484 : BitVec 32 := Scalar.subi v483 c9_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v129 : BitVec 32 := Scalar.subi v2 c10_i32
  let c0_i32_94 : BitVec 32 := 0#32
  let v130 : BitVec 1 := Scalar.cmpi .sge v129 c0_i32_94
  let c15_i32_95 : BitVec 32 := 15#32
  let v131 : BitVec 1 := Scalar.cmpi .slt v2 c15_i32_95
  let v132 : BitVec 1 := Scalar.andi v130 v131
  let v135 : BitVec 32 := Scalar.extui v132
  let c0_i32_98 : BitVec 32 := 0#32
  let v136 : BitVec 1 := Scalar.cmpi .ne v135 c0_i32_98
  v136

def k0_off23 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_320 : BitVec 32 := 10#32
  let v482 : BitVec 32 := Scalar.subi v2 c10_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_96 : BitVec 32 := 10#32
  let v133 : BitVec 32 := Scalar.subi v2 c10_i32_96
  let c1_i32_97 : BitVec 32 := 1#32
  let v134 : BitVec 1 := Scalar.cmpi .sge v133 c1_i32_97
  let v137 : BitVec 32 := Scalar.extui v134
  let c0_i32_99 : BitVec 32 := 0#32
  let v138 : BitVec 1 := Scalar.cmpi .ne v137 c0_i32_99
  v138

def k0_off24 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c10_i32_322 : BitVec 32 := 10#32
  let v484 : BitVec 32 := Scalar.subi v483 c10_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v139 : BitVec 32 := Scalar.subi v2 c11_i32
  let c0_i32_100 : BitVec 32 := 0#32
  let v140 : BitVec 1 := Scalar.cmpi .sge v139 c0_i32_100
  let c15_i32_101 : BitVec 32 := 15#32
  let v141 : BitVec 1 := Scalar.cmpi .slt v2 c15_i32_101
  let v142 : BitVec 1 := Scalar.andi v140 v141
  let v145 : BitVec 32 := Scalar.extui v142
  let c0_i32_104 : BitVec 32 := 0#32
  let v146 : BitVec 1 := Scalar.cmpi .ne v145 c0_i32_104
  v146

def k0_off25 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_320 : BitVec 32 := 11#32
  let v482 : BitVec 32 := Scalar.subi v2 c11_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev14 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_102 : BitVec 32 := 11#32
  let v143 : BitVec 32 := Scalar.subi v2 c11_i32_102
  let c1_i32_103 : BitVec 32 := 1#32
  let v144 : BitVec 1 := Scalar.cmpi .sge v143 c1_i32_103
  let v147 : BitVec 32 := Scalar.extui v144
  let c0_i32_105 : BitVec 32 := 0#32
  let v148 : BitVec 1 := Scalar.cmpi .ne v147 c0_i32_105
  v148

def k0_off26 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c11_i32_322 : BitVec 32 := 11#32
  let v484 : BitVec 32 := Scalar.subi v483 c11_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v149 : BitVec 32 := Scalar.subi v2 c12_i32
  let c0_i32_106 : BitVec 32 := 0#32
  let v150 : BitVec 1 := Scalar.cmpi .sge v149 c0_i32_106
  let c15_i32_107 : BitVec 32 := 15#32
  let v151 : BitVec 1 := Scalar.cmpi .slt v2 c15_i32_107
  let v152 : BitVec 1 := Scalar.andi v150 v151
  let v155 : BitVec 32 := Scalar.extui v152
  let c0_i32_110 : BitVec 32 := 0#32
  let v156 : BitVec 1 := Scalar.cmpi .ne v155 c0_i32_110
  v156

def k0_off27 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_320 : BitVec 32 := 12#32
  let v482 : BitVec 32 := Scalar.subi v2 c12_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev15 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_108 : BitVec 32 := 12#32
  let v153 : BitVec 32 := Scalar.subi v2 c12_i32_108
  let c1_i32_109 : BitVec 32 := 1#32
  let v154 : BitVec 1 := Scalar.cmpi .sge v153 c1_i32_109
  let v157 : BitVec 32 := Scalar.extui v154
  let c0_i32_111 : BitVec 32 := 0#32
  let v158 : BitVec 1 := Scalar.cmpi .ne v157 c0_i32_111
  v158

def k0_off28 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c12_i32_322 : BitVec 32 := 12#32
  let v484 : BitVec 32 := Scalar.subi v483 c12_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v159 : BitVec 32 := Scalar.subi v2 c13_i32
  let c0_i32_112 : BitVec 32 := 0#32
  let v160 : BitVec 1 := Scalar.cmpi .sge v159 c0_i32_112
  let c15_i32_113 : BitVec 32 := 15#32
  let v161 : BitVec 1 := Scalar.cmpi .slt v2 c15_i32_113
  let v162 : BitVec 1 := Scalar.andi v160 v161
  let v165 : BitVec 32 := Scalar.extui v162
  let c0_i32_116 : BitVec 32 := 0#32
  let v166 : BitVec 1 := Scalar.cmpi .ne v165 c0_i32_116
  v166

def k0_off29 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_320 : BitVec 32 := 13#32
  let v482 : BitVec 32 := Scalar.subi v2 c13_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev16 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_114 : BitVec 32 := 13#32
  let v163 : BitVec 32 := Scalar.subi v2 c13_i32_114
  let c1_i32_115 : BitVec 32 := 1#32
  let v164 : BitVec 1 := Scalar.cmpi .sge v163 c1_i32_115
  let v167 : BitVec 32 := Scalar.extui v164
  let c0_i32_117 : BitVec 32 := 0#32
  let v168 : BitVec 1 := Scalar.cmpi .ne v167 c0_i32_117
  v168

def k0_off30 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c13_i32_322 : BitVec 32 := 13#32
  let v484 : BitVec 32 := Scalar.subi v483 c13_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v169 : BitVec 32 := Scalar.subi v2 c14_i32
  let c0_i32_118 : BitVec 32 := 0#32
  let v170 : BitVec 1 := Scalar.cmpi .sge v169 c0_i32_118
  let c15_i32_119 : BitVec 32 := 15#32
  let v171 : BitVec 1 := Scalar.cmpi .slt v2 c15_i32_119
  let v172 : BitVec 1 := Scalar.andi v170 v171
  let v175 : BitVec 32 := Scalar.extui v172
  let c0_i32_122 : BitVec 32 := 0#32
  let v176 : BitVec 1 := Scalar.cmpi .ne v175 c0_i32_122
  v176

def k0_off31 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_320 : BitVec 32 := 14#32
  let v482 : BitVec 32 := Scalar.subi v2 c14_i32_320
  let c0_i32_326 : BitVec 32 := 0#32
  let c0_i32_327 : BitVec 32 := 0#32
  let c0_i32_328 : BitVec 32 := 0#32
  let c0_i32_329 : BitVec 32 := 0#32
  let c0_i32_330 : BitVec 32 := 0#32
  ![v482.toNat, 0, 0, 0, 0, 0]
def k0_dev17 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.addi v2 c1_i32_321
  let c1_i32_324 : BitVec 32 := 1#32
  let v484 : BitVec 32 := Scalar.muli v483 c1_i32_324
  let v485 : BitVec 32 := Scalar.addi c0_i32_325 v484
  v485.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_120 : BitVec 32 := 14#32
  let v173 : BitVec 32 := Scalar.subi v2 c14_i32_120
  let c1_i32_121 : BitVec 32 := 1#32
  let v174 : BitVec 1 := Scalar.cmpi .sge v173 c1_i32_121
  let v177 : BitVec 32 := Scalar.extui v174
  let c0_i32_123 : BitVec 32 := 0#32
  let v178 : BitVec 1 := Scalar.cmpi .ne v177 c0_i32_123
  v178

def k0_off32 (d0 : Dev nD) : Fin 6 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_321 : BitVec 32 := 1#32
  let v483 : BitVec 32 := Scalar.subi v2 c1_i32_321
  let c14_i32_322 : BitVec 32 := 14#32
  let v484 : BitVec 32 := Scalar.subi v483 c14_i32_322
  let c0_i32_328 : BitVec 32 := 0#32
  let c0_i32_329 : BitVec 32 := 0#32
  let c0_i32_330 : BitVec 32 := 0#32
  let c0_i32_331 : BitVec 32 := 0#32
  let c0_i32_332 : BitVec 32 := 0#32
  ![v484.toNat, 0, 0, 0, 0, 0]
def k0_dev18 (d0 : Dev nD) : Nat :=
  let c0_i32_321_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_320_r0 : BitVec 32 := 1#32
  let v482_r0 : BitVec 32 := Scalar.muli v5 c1_i32_320_r0
  let v483_r0 : BitVec 32 := Scalar.addi c0_i32_321_r0 v482_r0
  v483_r0.toNat
def k0_dev19 (d0 : Dev nD) : Nat :=
  let c0_i32_324_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_323_r0 : BitVec 32 := 1#32
  let v484_r0 : BitVec 32 := Scalar.muli v7 c1_i32_323_r0
  let v485_r0 : BitVec 32 := Scalar.addi c0_i32_324_r0 v484_r0
  v485_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x2048x512, .f32⟩
  | .hbm, ⟨6, _⟩ => ⟨S512x256, .f32⟩
  | .hbm, ⟨7, _⟩ => ⟨S2x2048x4x64, .f32⟩
  | .hbm, ⟨8, _⟩ => ⟨S2x2048x4x64, .f32⟩
  | .hbm, ⟨9, _⟩ => ⟨S256x512, .f32⟩
  | .hbm, ⟨10, _⟩ => ⟨S2x2048x256, .f32⟩
  | .hbm, ⟨11, _⟩ => ⟨S2x2048x4x64, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S2x4x2048x2048, .f32⟩
  | .hbm, ⟨56, _⟩ => ⟨S_, .f32⟩
  | .hbm, ⟨57, _⟩ => ⟨S2x4x2048x2048, .f32⟩
  | .hbm, ⟨58, _⟩ => ⟨S2x4x2048x2048, .f32⟩
  | .hbm, ⟨59, _⟩ => ⟨S1x1x2048x2048, .i1⟩
  | .hbm, ⟨60, _⟩ => ⟨S_, .f32⟩
  | .hbm, ⟨61, _⟩ => ⟨S_, .f32⟩
  | .hbm, ⟨62, _⟩ => ⟨S2x4x2048x2048, .i1⟩
  | .hbm, ⟨63, _⟩ => ⟨S2x4x2048x2048, .f32⟩
  | .hbm, ⟨64, _⟩ => ⟨S2x4x2048x2048, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x2048, .f32⟩
  | .hbm, ⟨69, _⟩ => ⟨S2x4x2048x2048, .f32⟩
  | .hbm, ⟨70, _⟩ => ⟨S2x4x2048x2048, .f32⟩
  | .hbm, ⟨71, _⟩ => ⟨S_, .i1⟩
  | .hbm, ⟨72, _⟩ => ⟨S2048, .i1⟩
  | .hbm, ⟨73, _⟩ => ⟨S1x1x2048x1, .i1⟩
  | .hbm, ⟨74, _⟩ => ⟨S_, .f32⟩
  | .hbm, ⟨75, _⟩ => ⟨S2x4x2048, .f32⟩
  | .hbm, ⟨76, _⟩ => ⟨S2x4x2048x1, .f32⟩
  | .hbm, ⟨77, _⟩ => ⟨S_, .f32⟩
  | .hbm, ⟨78, _⟩ => ⟨S_, .f32⟩
  | .hbm, ⟨79, _⟩ => ⟨S2x4x2048x1, .i1⟩
  | .hbm, ⟨80, _⟩ => ⟨S2x4x2048x1, .f32⟩
  | .hbm, ⟨81, _⟩ => ⟨S2x4x2048x1, .f32⟩
  | .hbm, ⟨82, _⟩ => ⟨S2x4x2048x2048, .f32⟩
  | .hbm, ⟨83, _⟩ => ⟨S2x4x2048x2048, .f32⟩
  | .hbm, ⟨84, _⟩ => ⟨S1x1x2048x1, .i1⟩
  | .hbm, ⟨85, _⟩ => ⟨S_, .f32⟩
  | .hbm, ⟨86, _⟩ => ⟨S_, .f32⟩
  | .hbm, ⟨87, _⟩ => ⟨S2x4x2048x2048, .i1⟩
  | .hbm, ⟨88, _⟩ => ⟨S2x4x2048x2048, .f32⟩
  | .hbm, ⟨89, _⟩ => ⟨S2x4x2048x2048, .f32⟩
  | .hbm, ⟨90, _⟩ => ⟨S2x4x64x2048, .f32⟩
  | .hbm, ⟨91, _⟩ => ⟨S2x2048x4x64, .f32⟩
  | .hbm, ⟨92, _⟩ => ⟨S2x2048x256, .f32⟩
  | .hbm, ⟨93, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Protocol.lean ====
/-
# The ring protocol of the kernel

Every device `c` keeps a key/value buffer of sixteen slots, one per device. The protocol, semaphore by semaphore:

* the runtime's barrier (`bar`): both ring neighbours signal it once, `c` waits for 2. The signal of the device
  AFTER `c` hands over that device's slots below its own position: the slots that `c` will fill by its copies. The
  signal of the device before `c` hands over nothing.
* send semaphore `h` of `c` (`h < 15`), used when `h ≤ c` and `c < 15`: `c` copies its slot `c - h` to the device
  after it and waits for the copy to have left; slot `c - h` comes back unchanged.
* receive semaphore `h` of `c`, used when `h + 1 ≤ c`: the device before `c` copies its slot `c - 1 - h` onto
  `c`'s slot of the same number; `c` waits for it and gets the slot with the keys and values of device `c - 1 - h`.
* the closing barrier (`bar2`): both neighbours signal it once, `c` waits for 2; nothing is handed over.

One array `kvAll` says what every slot holds wherever it has arrived: slot `s` holds the keys and values of device
`s`. A device waits in the order `bar`, then receive 0, 1, …, then `bar2`; the levels follow that order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy of the rounds and the ring's -/

/-- The ghost state of the ring's rounds. -/
abbrev UB : Type := URounds (GSem nD τ sig) Bool
/-- The ghost state: the staging's and the ring's. -/
abbrev UU : Type := UR sig nD τ × UB

local notation "𝕄" => MT nD τ sig Unit (Elt F) ℕ UU ℕ

/-- The staging's part of the ghost state. -/
abbrev EP : Emb (UR sig nD τ) (MT nD τ sig Unit (Elt F) ℕ UU ℕ) := embL
/-- The ring's part of the ghost state. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## The ring of sixteen -/

set_option backward.proofsInPublic true in
/-- The device after `c`. -/
def nxt (c : Dev nD) : Dev nD := ⟨(c.val + 1) % 16, Nat.mod_lt _ (by decide)⟩
set_option backward.proofsInPublic true in
/-- The device before `c`. -/
def prv (c : Dev nD) : Dev nD := ⟨(c.val + 15) % 16, Nat.mod_lt _ (by decide)⟩

/-- The device before the next one; -/
theorem prv_nxt (c : Dev nD) : prv (nxt c) = c := by revert c; decide
/-- and the device after the previous one. -/
theorem nxt_prv (c : Dev nD) : nxt (prv c) = c := by revert c; decide
/-- A device's two neighbours are different. -/
theorem nxt_ne_prv (c : Dev nD) : nxt c ≠ prv c := by revert c; decide

/-- Going one device forward, as a permutation. -/
def ring : Dev nD ≃ Dev nD := ⟨nxt, prv, prv_nxt, nxt_prv⟩

/-- Below the last device the next one's number is one more. -/
theorem nxt_val {c : Dev nD} (h : c.val < 15) : (nxt c).val = c.val + 1 := by
  show (c.val + 1) % 16 = _; omega
/-- A device's number is below sixteen. -/
theorem lt16 (c : Dev nD) : c.val < 16 := c.isLt

/-! ## The buffers and the semaphores -/

/-- The buffer of keys and values, sixteen slots. -/
abbrev kvM : Memref sig .tc .vmem S16x2x2x128x4x64 .bf16 := Memref.whole cc0_scratch0

/-- The slot that starts at `off`, as the kernel's copies name it. -/
abbrev slotM (off : Fin 6 → ℕ) (inb : ∀ a, off a + S1x2x2x128x4x64.size a ≤ S16x2x2x128x4x64.size a) :
    Memref sig .tc .vmem S2x2x128x4x64 .bf16 :=
  (kvM.slice (Rect.unit (s := S16x2x2x128x4x64) off S1x2x2x128x4x64.size inb) (fun _ => rfl)).squeeze
    S2x2x128x4x64 squeezes_S1x2x2x128x4x64_S2x2x128x4x64

/-- A slot lies within the buffer. -/
theorem slot_inb {j : ℕ} (hj : j < 16) : ∀ a, (![j, 0, 0, 0, 0, 0] : Fin 6 → ℕ) a + S1x2x2x128x4x64.size a ≤ S16x2x2x128x4x64.size a := by
  intro a; fin_cases a <;> simp [S1x2x2x128x4x64, S16x2x2x128x4x64]; omega

/-- A step's semaphore lies within its array. -/
theorem sem_inb (h : Fin 15) : ∀ a, (![h.val] : Fin 1 → ℕ) a + S1.size a ≤ S15.size a := by
  intro a; fin_cases a; show h.val + 1 ≤ 15; omega

/-- The runtime's barrier semaphore. -/
abbrev barS : Sem sig := (SemArray.scalar (sig.barrier 0 rfl) : Sems sig S_).sem
/-- The closing barrier's semaphore. -/
abbrev bar2S : Sem sig := cc0_scoped0.sem
/-- The send semaphore of step `h`. -/
abbrev sendS (h : Fin 15) : DmaSem sig :=
  ((cc0_scratch1.slice (Rect.unit (s := S15) ![h.val] S1.size (sem_inb h))).squeeze S_ squeezes_S1_S_).sem
/-- The receive semaphore of step `h`. -/
abbrev recvS (h : Fin 15) : DmaSem sig :=
  ((cc0_scratch2.slice (Rect.unit (s := S15) ![h.val] S1.size (sem_inb h))).squeeze S_ squeezes_S1_S_).sem

/-- The ring's semaphores of one device: the two barriers (`false` the runtime's, `true` the closing one), fifteen
    send and fifteen receive semaphores. -/
abbrev CIx : Type := Bool ⊕ (Fin 15 ⊕ Fin 15)
/-- The semaphore of each kind. -/
def csem : CIx → SemLoc sig
  | .inl false => .reg barS
  | .inl true => .reg bar2S
  | .inr (.inl h) => .dma (sendS h)
  | .inr (.inr h) => .dma (recvS h)
/-- Those of them scoped to the kernel. -/
abbrev OIx : Type := Unit ⊕ (Fin 15 ⊕ Fin 15)
/-- The semaphore of each kind that is scoped to the kernel. -/
abbrev osem : OIx → SemLoc sig
  | .inl _ => .reg bar2S
  | .inr (.inl h) => .dma (sendS h)
  | .inr (.inr h) => .dma (recvS h)

/-- Different kinds have different semaphores. -/
theorem csem_inj : Function.Injective csem := by decide +kernel

/-- Which of the ring's semaphores a semaphore is, if any. -/
def ixOf (sm : SemLoc sig) : Option CIx := Function.partialInv csem sm
/-- The kind of a kind's semaphore. -/
theorem ixOf_csem (k : CIx) : ixOf (csem k) = some k := Function.partialInv_left csem_inj k

/-- The semaphore of kind `k` on device `c`. -/
abbrev kcell (c : Dev nD) (k : CIx) : GSem nD τ sig := ((c : Thread nD τ), csem k)
/-- The runtime's barrier. -/
abbrev barK : CIx := .inl false
/-- The closing barrier. -/
abbrev bar2K : CIx := .inl true
/-- The send semaphore of step `h`, as a kind. -/
abbrev sendK (h : Fin 15) : CIx := .inr (.inl h)
/-- The receive semaphore of step `h`, as a kind. -/
abbrev recvK (h : Fin 15) : CIx := .inr (.inr h)

/-- Different devices or kinds have different semaphores. -/
theorem kcell_inj {c c' : Dev nD} {k k' : CIx} (h : kcell c k = kcell c' k') : c = c' ∧ k = k' :=
  ⟨congrArg (fun g : GSem nD τ sig => g.1.1) h, csem_inj (congrArg Prod.snd h)⟩

/-- What one copy of a slot credits. -/
abbrev N : ℕ := (slotM ![0, 0, 0, 0, 0, 0] (slot_inb (by decide : 0 < 16))).view.dmaCredit
/-- A copy credits something. -/
theorem N_pos : 0 < N := View.dmaCredit_pos _ (by decide)

/-! ## Contents -/

/-- Contents of the buffer of keys and values. -/
abbrev KVBuf (F : FTy → Type) : Type := (cc0_scratch0 : Ref sig .tc).ty.Contents (Elt F)

/-- The keys and the values of device `c`, as staged. -/
def kstg (c : Dev nD) : (cc0_stg2_0 : Ref sig .tc).ty.Contents (Elt F) :=
  (win0_2.blk (0 : Fin 1)).view.read (Elt F) ((s₀ m ρ).mem ((c : Thread nD τ).loc main_arg2))
/-- The values of device `c`, as staged. -/
def vstg (c : Dev nD) : (cc0_stg3_0 : Ref sig .tc).ty.Contents (Elt F) :=
  (win0_3.blk (0 : Fin 1)).view.read (Elt F) ((s₀ m ρ).mem ((c : Thread nD τ).loc main_arg3))

/-- The key half and the value half of device `c`'s own slot, as its stores name them. -/
abbrev keyR (c : Dev nD) : Rect S16x2x2x128x4x64 := Rect.unit (s := S16x2x2x128x4x64) (k0_off1 c) S1x1x2x128x4x64.size (k0_off1_inb c)
/-- The value half of device `c`'s own slot. -/
abbrev valR (c : Dev nD) : Rect S16x2x2x128x4x64 := Rect.unit (s := S16x2x2x128x4x64) (k0_off2 c) S1x1x2x128x4x64.size (k0_off2_inb c)

/-- The zeroed buffer; then with the keys, then with the values of device `c` stored into slot `c`. -/
def kv0 : KVBuf F := k0_pay2 (F := F)
/-- The buffer once the keys are stored. -/
def kv1 (c : Dev nD) : KVBuf F := (kvM.access (keyR c)).write (Elt F) kv0 (k0_pay3 (kstg m ρ c)) Finset.univ
/-- The buffer once keys and values are stored. -/
def kv2 (c : Dev nD) : KVBuf F := (kvM.access (valR c)).write (Elt F) (kv1 m ρ c) (k0_pay4 (vstg m ρ c)) Finset.univ

/-- The device whose slot an index lies in. -/
def slotOf (i : S16x2x2x128x4x64.Idx) : Dev nD := ⟨(i 0).val, (i 0).isLt⟩

/-- Every slot at the keys and values of its device. -/
def kvAll : KVBuf F := fun i => kv2 m ρ (slotOf i) i

/-- What device `c`'s buffer holds after the exchange: the slots up to its own filled, the later ones still zero. -/
def kvFin (c : Dev nD) : KVBuf F := fun i => if (slotOf i).val ≤ c.val then kvAll m ρ i else kv0 i

/-! ## Sets of slots -/

/-- The elements of slot `j`. -/
def slotSet (j : ℕ) : Finset S16x2x2x128x4x64.Idx := Finset.univ.filter fun i => (slotOf i).val = j
/-- Slots `c - h` to `c`: what device `c` holds filled after `h` receive steps. -/
def ownSet (c : Dev nD) (h : ℕ) : Finset S16x2x2x128x4x64.Idx := Finset.univ.filter fun i => c.val ≤ (slotOf i).val + h ∧ (slotOf i).val ≤ c.val
/-- The slots below `n - h`: what the device before `n` still has to fill on `n` after `h` copies. -/
def lowSet (n : Dev nD) (h : ℕ) : Finset S16x2x2x128x4x64.Idx := Finset.univ.filter fun i => (slotOf i).val + h < n.val
/-- The slots after `c`. -/
def highSet (c : Dev nD) : Finset S16x2x2x128x4x64.Idx := Finset.univ.filter fun i => c.val < (slotOf i).val

/-- An element is in slot `j` if that is its slot's number. -/
theorem mem_slotSet {j : ℕ} {i} : i ∈ slotSet j ↔ (slotOf i).val = j := by simp [slotSet]
/-- Membership in the slots that are filled. -/
theorem mem_ownSet {c : Dev nD} {h : ℕ} {i} : i ∈ ownSet c h ↔ c.val ≤ (slotOf i).val + h ∧ (slotOf i).val ≤ c.val := by simp [ownSet]
/-- Membership in the slots that are still to be filled. -/
theorem mem_lowSet {c : Dev nD} {h : ℕ} {i} : i ∈ lowSet c h ↔ (slotOf i).val + h < c.val := by simp [lowSet]
/-- Membership in the slots after a device's own. -/
theorem mem_highSet {c : Dev nD} {i} : i ∈ highSet c ↔ c.val < (slotOf i).val := by simp [highSet]

/-- The elements under the memref of slot `j` are the slot's. -/
theorem slotM_set {j : ℕ} (inb) : (slotM ![j, 0, 0, 0, 0, 0] inb).view.set = slotSet j := by
  show (((View.whole cc0_scratch0).slice (Rect.unit (s := S16x2x2x128x4x64) ![j, 0, 0, 0, 0, 0] S1x2x2x128x4x64.size inb)).reshape _ _).set = _
  rw [View.set_reshape, View.set_slice_whole]
  ext i
  rw [Rect.mem_set_unit, mem_slotSet]
  constructor
  · intro h
    have h0 := h 0
    simp [S1x2x2x128x4x64] at h0
    show (i 0).val = j
    omega
  · intro h a
    have h' : (i 0).val = j := h
    have h1 : (i 1).val < 2 := (i 1).isLt
    have h2 : (i 2).val < 2 := (i 2).isLt
    have h3 : (i 3).val < 128 := (i 3).isLt
    have h4 : (i 4).val < 4 := (i 4).isLt
    have h5 : (i 5).val < 64 := (i 5).isLt
    fin_cases a
    · exact ⟨h'.ge, by show (i 0).val < j + 1; omega⟩
    · exact ⟨Nat.zero_le _, h1⟩
    · exact ⟨Nat.zero_le _, h2⟩
    · exact ⟨Nat.zero_le _, h3⟩
    · exact ⟨Nat.zero_le _, h4⟩
    · exact ⟨Nat.zero_le _, h5⟩

/-- Points-to of a set of elements of device `c`'s key/value buffer. -/
def kvPts (c : Dev nD) (S : Finset S16x2x2x128x4x64.Idx) (f : KVBuf F) : sProp 𝕄 :=
  (((c : Thread nD τ).loc cc0_scratch0) ↦[S]{fullShare} f)

omit [FloatOps F] [Named F] in
/-- A points-to of the buffer may be a payload. -/
instance kvPts_storable (c : Dev nD) (S) (f : KVBuf F) : BI.Storable (upEmb : UEmb _ 𝕄) (kvPts (F := F) c S f) := by unfold kvPts; infer_instance

/-! ## The schedule -/

/-- What the device after `c` hands `c` at the first barrier: its slots below its own. -/
def barPay (c : Dev nD) : sProp 𝕄 := iprop(∃ f : KVBuf F, kvPts (nxt c) (lowSet (nxt c) 0) f)

/-- What each duty hands over: on the runtime's barrier the device after gives its slots below its own; a send gives its slot back; a
    receive gives the slot that has come in. -/
def payK (c : Dev nD) : CIx → Bool → sProp 𝕄
  | .inl false, d => if d then barPay c else iprop(emp)
  | .inl true, _ => iprop(emp)
  | .inr (.inl h), _ => kvPts c (slotSet (c.val - h.val)) (kvAll m ρ)
  | .inr (.inr h), _ => kvPts c (slotSet (c.val - 1 - h.val)) (kvAll m ρ)

/-- The duties of each semaphore: both on a barrier; on a send or receive semaphore one if the device's place makes it copy, else none. -/
def dutyK (c : Dev nD) : CIx → Finset Bool
  | .inl _ => Finset.univ
  | .inr (.inl h) => if h.val ≤ c.val ∧ c.val < 15 then {false} else ∅
  | .inr (.inr h) => if h.val + 1 ≤ c.val then {false} else ∅

/-- The units of each duty. -/
def amountK : CIx → ℕ
  | .inl _ => 1
  | .inr _ => N

/-- One round, round 0: a barrier has the two duties `false` (the device before) and `true` (the device after) of one
    unit each; a send or receive semaphore that is used has the duty `false` of one slot's credit. -/
def ringRd : Rounds.Schedule (GSem nD τ sig) Bool 𝕄 where
  duties g r := if r = 0 ∧ g.1.2 = .tc then (match ixOf g.2 with | some k => dutyK g.1.1 k | none => ∅) else ∅
  unitless _ := False
  amount g _ _ := match ixOf g.2 with | some k => amountK k | none => 1
  payload g _ d := match ixOf g.2 with | some k => payK m ρ g.1.1 k d | none => iprop(emp)
  amount_pos g _ _ _ := by
    cases ixOf g.2 with
    | none => exact Nat.one_pos
    | some k => cases k with
      | inl b => exact Nat.one_pos
      | inr k => exact N_pos

/-- Each payload may be kept in an invariant; -/
instance payK_storable (c : Dev nD) (k : CIx) (d : Bool) : BI.Storable (upEmb : UEmb _ 𝕄) (payK (F := F) m ρ c k d) := by
  rcases k with (_ | _) | (h | h) <;> cases d <;> unfold payK <;> simp only [if_true, if_false, Bool.false_eq_true] <;>
    (try unfold barPay) <;> infer_instance

/-- so may those of the schedule. -/
instance ringRd_payload_storable (g : GSem nD τ sig) (r : ℕ) (d : Bool) :
    BI.Storable (upEmb : UEmb _ 𝕄) ((ringRd (F := F) m ρ).payload g r d) := by
  show BI.Storable upEmb (match ixOf g.2 with | some k => payK m ρ g.1.1 k d | none => iprop(emp))
  cases ixOf g.2 with
  | none => dsimp only; infer_instance
  | some k => dsimp only; infer_instance

section Sched
variable (c : Dev nD) (k : CIx)

/-- The schedule's duties of one of the ring's semaphores in its only round. -/
theorem duties_k : (ringRd (F := F) m ρ).duties (kcell c k) 0 = dutyK c k := by
  dsimp only [ringRd]; rw [if_pos ⟨rfl, rfl⟩, ixOf_csem]
/-- There are no duties after round 0. -/
theorem duties_later (g : GSem nD τ sig) : ∀ r, 1 ≤ r → (ringRd (F := F) m ρ).duties g r = ∅ :=
  fun r hr => by dsimp only [ringRd]; rw [if_neg fun h => by omega]
/-- A semaphore that its device does not use has no duties at all. -/
theorem duties_none (h : dutyK c k = ∅) : ∀ r, 0 ≤ r → (ringRd (F := F) m ρ).duties (kcell c k) r = ∅ := fun r _ => by
  cases r with
  | zero => rw [duties_k, h]
  | succ r => exact duties_later m ρ _ _ (Nat.succ_le_succ (Nat.zero_le _))
/-- The schedule's amounts. -/
theorem amount_k (d : Bool) : (ringRd (F := F) m ρ).amount (kcell c k) 0 d = amountK k := by
  dsimp only [ringRd]; rw [ixOf_csem]
/-- The schedule's payloads. -/
theorem payload_k (d : Bool) : (ringRd (F := F) m ρ).payload (kcell c k) 0 d = payK m ρ c k d := by
  dsimp only [ringRd]; rw [ixOf_csem]

/-- A barrier gets two units. -/
theorem expect_barrier (b : Bool) : (ringRd (F := F) m ρ).expect (kcell c (.inl b)) 0 = 2 := by
  unfold Schedule.expect Schedule.amountOf
  rw [duties_k, Finset.sum_congr rfl fun d _ => amount_k m ρ c (.inl b) d]; rfl
/-- A send or receive semaphore that is used gets one slot's credit. -/
theorem expect_copy {k : Fin 15 ⊕ Fin 15} (hk : dutyK c (.inr k) = {false}) : (ringRd (F := F) m ρ).expect (kcell c (.inr k)) 0 = N := by
  unfold Schedule.expect Schedule.amountOf; rw [duties_k, hk, Finset.sum_singleton, amount_k]; rfl

/-- All that a copy's semaphore hands over: its one payload. -/
theorem rest_copy {k : Fin 15 ⊕ Fin 15} (hk : dutyK c (.inr k) = {false}) :
    bigSep ((ringRd (F := F) m ρ).duties (kcell c (.inr k)) 0 \ ∅) (fun d => (ringRd (F := F) m ρ).payload (kcell c (.inr k)) 0 d) = payK m ρ c (.inr k) false := by
  rw [Finset.sdiff_empty, duties_k, hk, bigSep_singleton, payload_k]
/-- All that a barrier hands over: the payloads of its two duties. -/
theorem rest_barrier (b : Bool) :
    bigSep ((ringRd (F := F) m ρ).duties (kcell c (.inl b)) 0 \ ∅) (fun d => (ringRd (F := F) m ρ).payload (kcell c (.inl b)) 0 d)
      = iprop(payK m ρ c (.inl b) false ∗ payK m ρ c (.inl b) true) := by
  rw [Finset.sdiff_empty, duties_k]
  show bigSep Finset.univ _ = _
  rw [bigSep_univ_eq_bigSepL [false, true] (by decide) (by decide), bigSepL_cons_cons, bigSepL_singleton, payload_k, payload_k]
  rfl
end Sched

/-! ## What each device owes at launch; the levels -/

/-- The two signals of the closing barrier. -/
def OB (c : Dev nD) : CellTallies nD τ sig Unit := tallyAt (kcell (nxt c) bar2K) () 1 + tallyAt (kcell (prv c) bar2K) () 1
/-- The copies from step `k` on, and the closing barrier. -/
def Ox (c : Dev nD) (k : ℕ) : CellTallies nD τ sig Unit :=
  OB c + ∑ h ∈ Finset.univ.filter (fun h : Fin 15 => k ≤ h.val ∧ h.val ≤ c.val ∧ c.val < 15), tallyAt (kcell (nxt c) (recvK h)) () N
/-- What is owed after the first signal. -/
def O₁ (c : Dev nD) : CellTallies nD τ sig Unit := Ox c 0 + tallyAt (kcell (nxt c) barK) () 1
/-- At launch: the first barrier's two signals (the first to the device before), then the copies. -/
def O₀ (c : Dev nD) : CellTallies nD τ sig Unit := O₁ c + tallyAt (kcell (prv c) barK) () 1

/-- A step that copies takes its credit out of what is owed; -/
theorem Ox_step {c : Dev nD} {h : Fin 15} (hc : h.val ≤ c.val ∧ c.val < 15) : Ox c h.val = Ox c (h.val + 1) + tallyAt (kcell (nxt c) (recvK h)) () N := by
  unfold Ox
  have : (Finset.univ.filter fun h' : Fin 15 => h.val ≤ h'.val ∧ h'.val ≤ c.val ∧ c.val < 15)
      = insert h (Finset.univ.filter fun h' : Fin 15 => h.val + 1 ≤ h'.val ∧ h'.val ≤ c.val ∧ c.val < 15) := by
    ext x; simp only [Finset.mem_filter, Finset.mem_univ, true_and, Finset.mem_insert, Fin.ext_iff]; omega
  rw [this, Finset.sum_insert (by simp), add_comm (tallyAt _ _ _), add_assoc]
/-- a step that does not leaves it. -/
theorem Ox_skip {c : Dev nD} {h : Fin 15} (hc : ¬ (h.val ≤ c.val ∧ c.val < 15)) : Ox c h.val = Ox c (h.val + 1) := by
  unfold Ox
  congr 2
  ext x; simp only [Finset.mem_filter, Finset.mem_univ, true_and]; omega
/-- After the fifteen steps only the closing barrier is owed. -/
theorem Ox_end (c : Dev nD) : Ox c 15 = OB c := by
  unfold Ox
  rw [Finset.filter_false_of_mem (fun x _ => by omega), Finset.sum_empty, add_zero]

/-- The kinds of units on a semaphore: one, on the core that runs the kernel. -/
def L (g : GSem nD τ sig) : Finset Unit := if g.1.2 = .tc then {()} else ∅
/-- The levels, by kind: a device waits on the runtime's barrier before the steps, on step `h`'s semaphores in the order of the steps, and
    on the closing barrier last. -/
def lvK : CIx → ℕ
  | .inl false => 1
  | .inl true => 20
  | .inr (.inl _) => 0
  | .inr (.inr h) => 2 + h.val
/-- The level of a semaphore. -/
def lv (g : GSem nD τ sig) (_ : Unit) : ℕ := match ixOf g.2 with | some k => lvK k | none => 0

/-- Other cores have no semaphores in use. -/
theorem L_of_ne (g : GSem nD τ sig) (h : g.1.2 ≠ .tc) : L g = ∅ := if_neg h
/-- The core that runs the kernel has one kind of unit on each. -/
theorem L_tc (c : Dev nD) (sm : SemLoc sig) : L ((c : Thread nD τ), sm) = {()} := if_pos rfl
/-- The level of one of the ring's semaphores. -/
theorem lv_k (c : Dev nD) (k : CIx) (u : Unit) : lv (kcell c k) u = lvK k := by unfold lv; rw [ixOf_csem]

/-- What the closing barrier owes lies on closing barriers. -/
theorem OB_pos {c : Dev nD} {g : GSem nD τ sig} {u : Unit} (h : 0 < OB c g u) : ∃ d, g = kcell d bar2K := by
  unfold OB at h
  rw [Pi.add_apply, Finsupp.add_apply, tallyAt_apply, tallyAt_apply] at h
  by_contra hn
  rw [not_exists] at hn
  rw [if_neg (fun h' => hn _ h'.1), if_neg (fun h' => hn _ h'.1)] at h
  exact Nat.lt_irrefl 0 h

/-- What is owed from step `k` on lies on closing barriers and on receive semaphores from `k` on. -/
theorem Ox_pos {c : Dev nD} {k : ℕ} (hk : k ≤ 15) {g : GSem nD τ sig} {u : Unit} (h : 0 < Ox c k g u) :
    ∃ d j, g = kcell d j ∧ 2 + k ≤ lvK j := by
  unfold Ox at h
  rw [Pi.add_apply, Finsupp.add_apply] at h
  rcases Nat.eq_zero_or_pos (OB c g u) with h0 | h0
  · rw [h0, Nat.zero_add, Finset.sum_apply, Finsupp.finset_sum_apply] at h
    obtain ⟨x, hx, hpos⟩ := Finset.exists_ne_zero_of_sum_ne_zero (Nat.pos_iff_ne_zero.mp h)
    rw [tallyAt_apply] at hpos
    have hg : g = kcell (nxt c) (recvK x) := by
      by_contra hn; exact hpos (if_neg fun h' => hn h'.1)
    have := (Finset.mem_filter.mp hx).2
    exact ⟨_, _, hg, by show 2 + k ≤ 2 + x.val; omega⟩
  · obtain ⟨d, hd⟩ := OB_pos h0
    exact ⟨d, bar2K, hd, by show 2 + k ≤ 20; omega⟩

/-- What is owed at launch lies on the ring's semaphores of level at least 1. -/
theorem O₀_pos {c : Dev nD} {g : GSem nD τ sig} {u : Unit} (h : 0 < O₀ c g u) : ∃ d j, g = kcell d j ∧ 1 ≤ lvK j := by
  unfold O₀ O₁ at h
  rw [Pi.add_apply, Finsupp.add_apply, Pi.add_apply, Finsupp.add_apply, tallyAt_apply, tallyAt_apply] at h
  rcases Nat.eq_zero_or_pos (Ox c 0 g u) with h0 | h0
  · by_contra hn
    have hbar (d : Dev nD) : ¬ (g = kcell d barK ∧ u = ()) := fun h' => hn ⟨d, barK, h'.1, Nat.le_refl 1⟩
    rw [if_neg (hbar _), if_neg (hbar _), h0] at h
    exact Nat.lt_irrefl 0 h
  · obtain ⟨d, j, hg, hl⟩ := Ox_pos (Nat.zero_le _) h0
    exact ⟨d, j, hg, by omega⟩

/-- A device may wait on a semaphore of level at most `n` while all it owes lies above `n`. -/
theorem mayWait_of (c : Dev nD) (sm : SemLoc sig) (n : ℕ) (O : CellTallies nD τ sig Unit) (hn : lv ((c : Thread nD τ), sm) () ≤ n)
    (hO : ∀ g u, 0 < O g u → ∃ d j, g = kcell d j ∧ n < lvK j) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, j, rfl, -⟩ := hO g u hg; rw [L_tc]; exact Finset.mem_singleton_self _)
    (fun p hp => by rw [Finset.mem_singleton.mp hp]; exact hn)
    (fun g u hg => by obtain ⟨d, j, rfl, hl⟩ := hO g u hg; rw [lv_k]; exact hl)

/-- A semaphore outside the ring has no kind. -/
theorem ixOf_none {sm : SemLoc sig} (h : ∀ k, csem k ≠ sm) : ixOf sm = none := dif_neg fun ⟨k, hk⟩ => h k hk

/-- The staging semaphores are none of the ring's. -/
theorem stage_ne : ∀ (w : Fin 6) (s : Fin (spec0 w).nbuf) (k : CIx), csem k ≠ .dma ((spec0 w).sem s) := by decide +kernel

/-- The staging's waits are allowed, at launch and at the end. -/
theorem mayWait_stage (c : Dev nD) (w : Fin 6) (s : Fin (spec0 w).nbuf) (O : CellTallies nD τ sig Unit) (hO : O = O₀ c ∨ O = 0) :
    (levAts L lv : sProp 𝕄) ⊢ MayWait (c : Thread nD τ) (.dma ((spec0 w).sem s)) () O := by
  rcases hO with rfl | rfl
  · refine mayWait_of c _ 0 _ ?_ fun g u h => O₀_pos h
    unfold lv; rw [ixOf_none (stage_ne w s)]
  · rw [MayWait_zero]; iintro -; iempintro

/-- At a wait on one of the ring's semaphores a device owes only what lies above it. -/
theorem mayWait_ring (c : Dev nD) (k : CIx) (n : ℕ) (hn : n ≤ 15) (hk : lvK k < 2 + n) :
    (levAts L lv : sProp 𝕄) ⊢ MayWait (c : Thread nD τ) (csem k) () (Ox c n) :=
  mayWait_of c _ (1 + n) _ (by rw [lv_k]; omega) fun g u h => by
    obtain ⟨d, j, hg, hl⟩ := Ox_pos hn h
    exact ⟨d, j, hg, by omega⟩

end Cert.KernelIdealProof

end
-- ==== Proof.Steps.lean ====
/-
# One step of the exchange

Step `h` of device `c` is a guarded copy (with the wait for it to leave) and a guarded wait for the copy coming in.
Both are proved once, for every step `h` and every device `c`; the state between steps is `St`.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CIx → ℕ)

/-- No loop needs a variant. -/
abbrev 𝒱₀ : Variants := Variants.none

/-! ## What is shared, what a step uses and what it leaves -/

/-- All devices' semaphores under their invariants, and that each has reached round 0. -/
def records : sProp 𝕄 :=
  iprop((bigSep Finset.univ fun ck : Dev nD × CIx => cellInv ER (ringRd m ρ) (K ck) (kcell ck.1 ck.2))
    ∗ bigSep Finset.univ fun ck : Dev nD × CIx => reached ER (kcell ck.1 ck.2) 0)

/-- The records may be used any number of times. -/
instance records_persistent : BI.Persistent (records m ρ K) := by unfold records; infer_instance

/-- The invariant of one semaphore, out of the records. -/
theorem inv_at (c : Dev nD) (k : CIx) : records m ρ K ⊢ cellInv ER (ringRd m ρ) (K (c, k)) (kcell c k) := by
  unfold records
  have h : (bigSep Finset.univ fun ck : Dev nD × CIx => (cellInv ER (ringRd m ρ) (K ck) (kcell ck.1 ck.2) : sProp 𝕄))
      ⊢ cellInv ER (ringRd m ρ) (K (c, k)) (kcell c k) := bigSep_elim (Finset.mem_univ (c, k))
  iintro ⟨H, -⟩
  iapply h; iexact H
/-- The first round of every semaphore has been reached. -/
theorem reached_at (c : Dev nD) (k : CIx) : records m ρ K ⊢ reached ER (kcell c k) 0 := by
  unfold records
  have h : (bigSep Finset.univ fun ck : Dev nD × CIx => (reached ER (kcell ck.1 ck.2) 0 : sProp 𝕄)) ⊢ reached ER (kcell c k) 0 :=
    bigSep_elim (Finset.mem_univ (c, k))
  iintro ⟨-, H⟩
  iapply h; iexact H

/-- What copies come in on device `c`'s receive semaphore `h`. -/
def inAmt (c : Dev nD) (h : Fin 15) : ℕ := if h.val + 1 ≤ c.val then N else 0

/-- What step `h` takes: positions and tokens on its two semaphores, the token on the next device's, and the credit of what comes in. -/
def stepRes (c : Dev nD) (h : Fin 15) : sProp 𝕄 :=
  iprop(atPos ER (kcell c (sendK h)) 0 ∅ 0 ∗ dutyTok ER (kcell c (sendK h)) 0 false ∗ dutyTok ER (kcell (nxt c) (recvK h)) 0 false
    ∗ atPos ER (kcell c (recvK h)) 0 ∅ 0 ∗ cred (tallyAt (kcell c (recvK h)) () (inAmt c h)))
/-- What step `h` leaves: its two semaphores at zero. -/
def stepDone (c : Dev nD) (h : Fin 15) : sProp 𝕄 := iprop(semVal (kcell c (sendK h)) 0 ∗ semVal (kcell c (recvK h)) 0)

/-- What the steps from `n` on take. -/
def restFrom (c : Dev nD) (n : ℕ) : sProp 𝕄 := bigSep (Finset.univ.filter fun h : Fin 15 => n ≤ h.val) (stepRes c)
/-- What the steps before `n` have left. -/
def doneTo (c : Dev nD) (n : ℕ) : sProp 𝕄 := bigSep (Finset.univ.filter fun h : Fin 15 => h.val < n) (stepDone c)

/-- The next step's share, taken off; -/
theorem restFrom_peel (c : Dev nD) (h : Fin 15) : (restFrom c h.val : sProp 𝕄) = iprop(stepRes c h ∗ restFrom c (h.val + 1)) := by
  unfold restFrom
  have : (Finset.univ.filter fun x : Fin 15 => h.val ≤ x.val) = insert h (Finset.univ.filter fun x : Fin 15 => h.val + 1 ≤ x.val) := by
    ext x; simp only [Finset.mem_filter, Finset.mem_univ, true_and, Finset.mem_insert, Fin.ext_iff]; omega
  rw [this, bigSep_insert (by simp)]; rfl
/-- a finished step, put to the others. -/
theorem doneTo_push (c : Dev nD) (h : Fin 15) : (doneTo c (h.val + 1) : sProp 𝕄) = iprop(stepDone c h ∗ doneTo c h.val) := by
  unfold doneTo
  have : (Finset.univ.filter fun x : Fin 15 => x.val < h.val + 1) = insert h (Finset.univ.filter fun x : Fin 15 => x.val < h.val) := by
    ext x; simp only [Finset.mem_filter, Finset.mem_univ, true_and, Finset.mem_insert, Fin.ext_iff]; omega
  rw [this, bigSep_insert (by simp)]; rfl

/-- What device `c` is still to fill on the device after it. -/
def lowPts (c : Dev nD) (n : ℕ) : sProp 𝕄 := iprop(∃ f : KVBuf F, kvPts (nxt c) (lowSet (nxt c) n) f)
/-- What device `c` owes, with the waits it has made. -/
def owing (c : Dev nD) (O : CellTallies nD τ sig Unit) : sProp 𝕄 := iprop(∃ W : Waits sig Unit, owes (c : Thread nD τ) O W)

/-- Between steps: `n` steps done. -/
def St (c : Dev nD) (n : ℕ) : sProp 𝕄 :=
  iprop(records m ρ K ∗ levAts L lv ∗ kvPts c (ownSet c n) (kvAll m ρ) ∗ lowPts c n ∗ owing c (Ox c n) ∗ restFrom c n ∗ doneTo c n)
/-- Within step `h`, between its copy and its wait for the copy coming in. -/
def Mid (c : Dev nD) (h : Fin 15) : sProp 𝕄 :=
  iprop(records m ρ K ∗ levAts L lv ∗ kvPts c (ownSet c h.val) (kvAll m ρ) ∗ lowPts c (h.val + 1) ∗ owing c (Ox c (h.val + 1))
    ∗ (atPos ER (kcell c (recvK h)) 0 ∅ 0 ∗ cred (tallyAt (kcell c (recvK h)) () (inAmt c h))) ∗ restFrom c (h.val + 1)
    ∗ semVal (kcell c (sendK h)) 0 ∗ doneTo c h.val)

/-! ## Regions -/

/-- The slot that step `h` sends is one that the device holds filled; -/
theorem slot_sub_own {c : Dev nD} {h : ℕ} (hc : h ≤ c.val) : slotSet (c.val - h) ⊆ ownSet c h := fun i hi => by
  rw [mem_slotSet] at hi; rw [mem_ownSet]; omega
/-- on the next device it is one that is still to be filled. -/
theorem slot_sub_low {c : Dev nD} {h : ℕ} (hc : h ≤ c.val ∧ c.val < 15) : slotSet (c.val - h) ⊆ lowSet (nxt c) h := fun i hi => by
  rw [mem_slotSet] at hi; rw [mem_lowSet, nxt_val hc.2]; omega
/-- A step that copies leaves one slot less to fill; -/
theorem low_sdiff {c : Dev nD} {h : ℕ} (hc : h ≤ c.val ∧ c.val < 15) : lowSet (nxt c) h \ slotSet (c.val - h) = lowSet (nxt c) (h + 1) := by
  ext i; rw [Finset.mem_sdiff, mem_slotSet, mem_lowSet, mem_lowSet, nxt_val hc.2]; omega
/-- a step that does not leaves them all. -/
theorem low_skip {c : Dev nD} {h : ℕ} (hc : ¬ (h ≤ c.val ∧ c.val < 15)) : lowSet (nxt c) h = lowSet (nxt c) (h + 1) := by
  ext i; rw [mem_lowSet, mem_lowSet]
  have := lt16 c
  rcases Nat.lt_or_ge c.val 15 with h15 | h15
  · rw [nxt_val h15]; omega
  · have : (nxt c).val = 0 := by show (c.val + 1) % 16 = 0; omega
    omega
/-- A step that receives fills one slot more, -/
theorem own_union {c : Dev nD} {h : ℕ} (hc : h + 1 ≤ c.val) : ownSet c h ∪ slotSet (c.val - 1 - h) = ownSet c (h + 1) := by
  ext i; rw [Finset.mem_union, mem_slotSet, mem_ownSet, mem_ownSet]; omega
/-- a new one; -/
theorem own_disj {c : Dev nD} {h : ℕ} (hc : h + 1 ≤ c.val) : Disjoint (ownSet c h) (slotSet (c.val - 1 - h)) :=
  Finset.disjoint_left.mpr fun i h1 h2 => by rw [mem_ownSet] at h1; rw [mem_slotSet] at h2; omega
/-- a step that does not receive fills none. -/
theorem own_skip {c : Dev nD} {h : ℕ} (hc : ¬ (h + 1 ≤ c.val)) : ownSet c h = ownSet c (h + 1) := by
  ext i; rw [mem_ownSet, mem_ownSet]; omega

/-- The points-to of a set, cut in two. -/
theorem kvPts_split {c : Dev nD} {I S : Finset S16x2x2x128x4x64.Idx} (h : I ⊆ S) (f : KVBuf F) :
    (kvPts c S f : sProp 𝕄) ⊣⊢ iprop(kvPts c I f ∗ kvPts c (S \ I) f) := pointsTo_split_subset h
/-- The points-to of a disjoint union. -/
theorem kvPts_union {c : Dev nD} {I J : Finset S16x2x2x128x4x64.Idx} (h : Disjoint I J) (f : KVBuf F) :
    (kvPts c (I ∪ J) f : sProp 𝕄) ⊣⊢ iprop(kvPts c I f ∗ kvPts c J f) := pointsTo_union h
/-- The points-to depends on the contents within its set only. -/
theorem kvPts_congr {c : Dev nD} {S : Finset S16x2x2x128x4x64.Idx} {f g : KVBuf F} (h : ∀ i ∈ S, f i = g i) :
    (kvPts c S f : sProp 𝕄) = kvPts c S g := pointsTo_congr h

/-! ## The copy of a step -/

/-- The send semaphore's duty, where the device sends. -/
theorem duty_send {c : Dev nD} {h : Fin 15} (hc : h.val ≤ c.val ∧ c.val < 15) : dutyK c (sendK h) = {false} := if_pos hc
/-- The receive semaphore's duty, where the device receives. -/
theorem duty_recv {c : Dev nD} {h : Fin 15} (hc : h.val + 1 ≤ c.val) : dutyK c (recvK h) = {false} := if_pos hc

/-- What a finished send gives back: its slot. -/
theorem payK_send (c : Dev nD) (h : Fin 15) (d : Bool) : (payK m ρ c (.inr (.inl h)) d : sProp 𝕄) = kvPts c (slotSet (c.val - h.val)) (kvAll m ρ) := rfl
/-- What a receive hands over: the slot that has come in, filled. -/
theorem payK_recv (c : Dev nD) (h : Fin 15) (d : Bool) : (payK m ρ c (.inr (.inr h)) d : sProp 𝕄) = kvPts c (slotSet (c.val - 1 - h.val)) (kvAll m ρ) := rfl
/-- Every slot credits the same, -/
theorem slot_credit (off) (inb) : (slotM off inb).view.dmaCredit = N := rfl
/-- on either semaphore. -/
theorem slot_amount (off) (inb) (sm : DmaSem sig) : (slotM off inb).view.amount (.dma sm) = N := rfl

/-- The elements a slot's memref covers, as that slot of the buffer. -/
theorem slotPts_eq (c : Dev nD) {j : ℕ} (inb) (f : KVBuf F) :
    ((slotM ![j, 0, 0, 0, 0, 0] inb).view.loc (c : Thread nD τ) ↦[(slotM ![j, 0, 0, 0, 0, 0] inb).view.set]{fullShare} f : sProp 𝕄) = kvPts c (slotSet j) f := by
  rw [slotM_set]; rfl

/-- Slot `j` copied from a buffer at `g` over whatever the slot held: the slot at `g`. -/
theorem slot_landed (c : Dev nD) {j : ℕ} (inb) (f g : KVBuf F) :
    ((slotM ![j, 0, 0, 0, 0, 0] inb).view.loc (c : Thread nD τ) ↦[(slotM ![j, 0, 0, 0, 0, 0] inb).view.set]{fullShare}
      ((slotM ![j, 0, 0, 0, 0, 0] inb).view.write (Elt F) f ((slotM ![j, 0, 0, 0, 0, 0] inb).view.read (Elt F) g) Finset.univ) : sProp 𝕄)
      = kvPts c (slotSet j) g := by
  rw [slotPts_eq]
  refine kvPts_congr fun i hi => ?_
  rw [View.write_read_eq_piecewise]
  exact Finset.piecewise_eq_of_mem _ _ _ (by rw [← slotM_set inb] at hi; exact hi)

/-- `c`'s copy of its slot `c - h` onto the same slot of the device after it. -/
theorem wp_copy (c : Dev nD) (h : Fin 15) (hc : h.val ≤ c.val ∧ c.val < 15) (inb)
    {hsc : (slotM ![c.val - h.val, 0, 0, 0, 0, 0] inb).view.ref.isScScratch = false} {hsrc} {hdst}
    {hsem : DmaTarget.Typed .vmem (.dma (recvS h)) (.remote (Dev.tc (nxt c) : Thread nD τ) (slotM ![c.val - h.val, 0, 0, 0, 0, 0] inb) (.dma (sendS h)) hsc)}
    {α : Type} {Q : α → sProp 𝕄} {k : PUnit → Prog (TpuEff nD τ sig (Elt F) Λ₀ .tc) α} (fn : KVBuf F) (W : Waits sig Unit) :
    iprop(records m ρ K ∗ kvPts c (slotSet (c.val - h.val)) (kvAll m ρ) ∗ kvPts (nxt c) (slotSet (c.val - h.val)) fn
        ∗ owes (c : Thread nD τ) (Ox c h.val) W
        ∗ dutyTok ER (kcell c (sendK h)) 0 false ∗ dutyTok ER (kcell (nxt c) (recvK h)) 0 false)
      ⊢ iprop(((cred (tallyAt (kcell c (sendK h)) () N) ∗ owes (c : Thread nD τ) (Ox c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ![c.val - h.val, 0, 0, 0, 0, 0] inb)
                (.remote (Dev.tc (nxt c) : Thread nD τ) (slotM ![c.val - h.val, 0, 0, 0, 0, 0] inb) (.dma (sendS h)) hsc)
                (.dma (recvS h)) hsrc hdst hsem) k) Q) := by
  have hv : (nxt c).val - 1 - h.val = c.val - h.val := by rw [nxt_val hc.2]; omega
  have hd2 : dutyK (nxt c) (recvK h) = {false} := duty_recv (by rw [nxt_val hc.2]; omega)
  have hm1 : false ∈ (ringRd (F := F) m ρ).duties (((c : Thread nD τ), SemLoc.dma (sendS h))) 0 := by
    rw [show ((c : Thread nD τ), SemLoc.dma (sendS h)) = kcell c (sendK h) from rfl, duties_k, duty_send hc]; exact Finset.mem_singleton_self _
  have hm2 : false ∈ (ringRd (F := F) m ρ).duties (((nxt c : Thread nD τ), SemLoc.dma (recvS h))) 0 := by
    rw [show ((nxt c : Thread nD τ), SemLoc.dma (recvS h)) = kcell (nxt c) (recvK h) from rfl, duties_k, hd2]; exact Finset.mem_singleton_self _
  have hp1 : ((slotM ![c.val - h.val, 0, 0, 0, 0, 0] inb).view.loc (c : Thread nD τ) ↦[(slotM ![c.val - h.val, 0, 0, 0, 0, 0] inb).view.set]{fullShare} kvAll m ρ : sProp 𝕄)
      ⊢ (ringRd m ρ).payload (((c : Thread nD τ), SemLoc.dma (sendS h))) 0 false := by
    rw [show ((c : Thread nD τ), SemLoc.dma (sendS h)) = kcell c (sendK h) from rfl, payload_k, payK_send, slotPts_eq]
  have hp2 : ((slotM ![c.val - h.val, 0, 0, 0, 0, 0] inb).view.loc (nxt c : Thread nD τ) ↦[(slotM ![c.val - h.val, 0, 0, 0, 0, 0] inb).view.set]{fullShare}
        ((slotM ![c.val - h.val, 0, 0, 0, 0, 0] inb).view.write (Elt F) fn ((slotM ![c.val - h.val, 0, 0, 0, 0, 0] inb).view.read (Elt F) (kvAll m ρ)) Finset.univ) : sProp 𝕄)
      ⊢ (ringRd m ρ).payload (((nxt c : Thread nD τ), SemLoc.dma (recvS h))) 0 false := by
    rw [show ((nxt c : Thread nD τ), SemLoc.dma (recvS h)) = kcell (nxt c) (recvK h) from rfl, payload_k, payK_recv, hv, slot_landed]
  have H : iprop(cellInv ER (ringRd m ρ) (K (c, sendK h)) (((c : Thread nD τ), SemLoc.dma (sendS h))) ∗ cellInv ER (ringRd m ρ) (K (nxt c, recvK h)) (((nxt c : Thread nD τ), SemLoc.dma (recvS h)))
        ∗ ((slotM ![c.val - h.val, 0, 0, 0, 0, 0] inb).view.loc (c : Thread nD τ) ↦[(slotM ![c.val - h.val, 0, 0, 0, 0, 0] inb).view.set]{fullShare} kvAll m ρ)
        ∗ ((slotM ![c.val - h.val, 0, 0, 0, 0, 0] inb).view.loc (nxt c : Thread nD τ) ↦[(slotM ![c.val - h.val, 0, 0, 0, 0, 0] inb).view.set]{fullShare} fn)
        ∗ owes (c : Thread nD τ) (Ox c h.val) W
        ∗ dutyTok ER (((c : Thread nD τ), SemLoc.dma (sendS h))) 0 false ∗ reached ER (((c : Thread nD τ), SemLoc.dma (sendS h))) 0
        ∗ dutyTok ER (((nxt c : Thread nD τ), SemLoc.dma (recvS h))) 0 false ∗ reached ER (((nxt c : Thread nD τ), SemLoc.dma (recvS h))) 0)
      ⊢ iprop(((cred (tallyAt (((c : Thread nD τ), SemLoc.dma (sendS h))) () N) ∗ owes (c : Thread nD τ) (Ox c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM ![c.val - h.val, 0, 0, 0, 0, 0] inb)
                (.remote (Dev.tc (nxt c) : Thread nD τ) (slotM ![c.val - h.val, 0, 0, 0, 0, 0] inb) (.dma (sendS h)) hsc)
                (.dma (recvS h)) hsrc hdst hsem) k) Q) :=
    by
      refine Rounds.wp_send_pointsTo 𝒱₀ ER (ringRd m ρ) (c : Thread nD τ) none ?_ ?_ () () N ?_ ?_ ?_ (Ox c (h.val + 1)) ?_ ?_ ?_ (Topo.routes_tc _ _)
      · exact hm1
      · exact hm2
      · exact slot_amount _ _ _
      · exact amount_k m ρ c (sendK h) false
      · exact amount_k m ρ (nxt c) (recvK h) false
      · exact Ox_step hc
      · exact hp1
      · exact hp2
  rw [slotPts_eq, slotPts_eq] at H
  iintro ⟨#HR, Hs, Hd, HO, Ht1, Ht2⟩
  iapply H
  isplitr; · iapply (inv_at m ρ K c (sendK h)); iexact HR
  isplitr; · iapply (inv_at m ρ K (nxt c) (recvK h)); iexact HR
  isplitl [Hs]; · iexact Hs
  isplitl [Hd]; · iexact Hd
  isplitl [HO]; · iexact HO
  isplitl [Ht1]; · iexact Ht1
  isplitr; · iapply (reached_at m ρ K c (sendK h)); iexact HR
  isplitl [Ht2]; · iexact Ht2
  iapply (reached_at m ρ K (nxt c) (recvK h)); iexact HR

/-- The wait for a copy on one of `c`'s own semaphores that has one coming: its payload, and the counter back at zero. -/
theorem wp_await (c : Dev nD) (k : Fin 15 ⊕ Fin 15) (sm : DmaSem sig) (hsm : csem (.inr k) = .dma sm) (hk : dutyK c (.inr k) = {false}) (n : ℕ) (hn : n ≤ 15) (hl : lvK (.inr k) < 2 + n)
    {off : Fin 6 → ℕ} {inb} {h1} {h2}
    {α : Type} {Q : α → sProp 𝕄} {kk : PUnit → Prog (TpuEff nD τ sig (Elt F) Λ₀ .tc) α} :
    iprop(records m ρ K ∗ levAts L lv ∗ owing c (Ox c n) ∗ atPos ER (kcell c (.inr k)) 0 ∅ 0 ∗ cred (tallyAt (kcell c (.inr k)) () N))
      ⊢ iprop(((owing c (Ox c n) ∗ payK m ρ c (.inr k) false ∗ semVal (kcell c (.inr k)) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm (slotM off inb) (slotM off inb) h1 h2) kk) Q) := by
  have hdst : (slotM off inb).view.dmaCredit = N := slot_credit off inb
  have hcell : ((c : Thread nD τ), SemLoc.dma sm) = kcell c (.inr k) := by rw [kcell, hsm]
  unfold owing
  iintro ⟨#HR, #Hlev, ⟨%W, HO⟩, Hat, Hc⟩ Hk
  iapply (Rounds.wp_wait_rest_token 𝒱₀ ER (ringRd m ρ) (c : Thread nD τ) none (κ := K (c, .inr k)) (sm := .dma sm)
      (wpE_waitDma2_eq 𝒱₀ (c : Thread nD τ) none Set.univ) (Set.mem_univ _) () (O := Ox c n) (W := W) (R := 0) (m := 0) (T := ∅)
      (by rw [Nat.zero_add, hcell, expect_copy m ρ c hk, hdst])) $$ [Hc HO Hat]
  · rw [hcell, hdst]
    isplitr; · iapply (inv_at m ρ K c (.inr k)); iexact HR
    isplitl [Hc]; · iexact Hc
    isplitl [HO]; · iexact HO
    isplitr; · rw [← hsm]; iapply (mayWait_ring c (.inr k) n hn hl); iexact Hlev
    iexact Hat
  rw [hcell]
  iintro ⟨HO, Hat, -, Hpay⟩
  ihave Hp := (Entails.of_eq (rest_copy m ρ c hk)) $$ Hpay
  imod (Rounds.cell_close ER (ringRd m ρ) (Set.mem_univ (K (c, .inr k))) (fun h => h) (R := 0 + 1) (duties_later m ρ (kcell c (.inr k)))) $$ [Hat] with Hz
  · isplitr; · iapply (inv_at m ρ K c (.inr k)); iexact HR
    iexact Hat
  iapply Hk
  isplitl [HO]; · iexists _; iexact HO
  isplitl [Hp]; · iexact Hp
  iexact Hz

/-- A semaphore that `c` does not use closes at once. -/
theorem close_unused (c : Dev nD) (k : CIx) (hk : dutyK c k = ∅) :
    iprop(records m ρ K ∗ atPos ER (kcell c k) 0 ∅ 0) ⊢ |={Set.univ}=> (semVal (kcell c k) 0 : sProp 𝕄) := by
  iintro ⟨#HR, Hat⟩
  iapply (Rounds.cell_close ER (ringRd m ρ) (Set.mem_univ (K (c, k))) (fun h => h) (R := 0) (duties_none m ρ c k hk))
  isplitr; · iapply (inv_at m ρ K c k); iexact HR
  iexact Hat

/-- The guarded copy, taken. -/
theorem send_taken (c : Dev nD) (h : Fin 15) (hc : h.val ≤ c.val ∧ c.val < 15) {off : Fin 6 → ℕ} {inb} {n : Dev nD} {sS sR : DmaSem sig}
    (hoff : off = ![c.val - h.val, 0, 0, 0, 0, 0]) (hn : n = nxt c) (hS : sS = sendS h) (hR : sR = recvS h)
    {hsc} {hsrc} {hdst} {hsem} {h1} {h2} :
    St m ρ K c h.val ⊢ wp frame (wpE (defs₀ (F := F)) 𝒱₀ (c : Thread nD τ) none) Set.univ
      (Prog.op (.enqueueDma (slotM off inb) (.remote (Dev.tc n : Thread nD τ) (slotM off inb) (.dma sS) hsc) (.dma sR) hsrc hdst hsem)
        fun _ => Prog.op (.waitDma2 sS (slotM off inb) (slotM off inb) h1 h2) fun _ => Prog.ret (⟨⟩ : PUnit))
      (fun _ => Mid m ρ K c h) := by
  subst hoff hn hS hR
  unfold St Mid lowPts
  rw [restFrom_peel]
  unfold stepRes
  iintro ⟨#HR, #Hlev, Hown, ⟨%fn, Hlow⟩, HO, ⟨⟨HaS, Ht1, Ht2, HaV, HcV⟩, Hrest⟩, Hdone⟩
  ihave Hown := (kvPts_split (slot_sub_own hc.1) _).1 $$ Hown
  icases Hown with ⟨Hs, Hown⟩
  ihave Hlow := (kvPts_split (slot_sub_low hc) _).1 $$ Hlow
  icases Hlow with ⟨Hd, Hlow⟩
  unfold owing
  icases HO with ⟨%W, HO⟩
  iapply (wp_copy m ρ K c h hc inb fn W) $$ [Hs Hd HO Ht1 Ht2]
  · isplitr; · iexact HR
    isplitl [Hs]; · iexact Hs
    isplitl [Hd]; · iexact Hd
    isplitl [HO]; · iexact HO
    isplitl [Ht1] <;> iassumption
  iintro ⟨HcS, HO⟩
  iapply (wp_await m ρ K c (.inl h) (sendS h) rfl (duty_send hc) (h.val + 1) (by omega) (by show 0 < _; omega)) $$ [HcS HO HaS]
  · unfold owing
    isplitr; · iexact HR
    isplitr; · iexact Hlev
    isplitl [HO]; · iexists W; iexact HO
    isplitl [HaS] <;> iassumption
  unfold owing
  rw [payK_send]
  iintro ⟨HO, Hs, Hz⟩
  rw [wp_ret]; imodintro
  isplitr; · iexact HR
  isplitr; · iexact Hlev
  isplitl [Hs Hown]
  · iapply (kvPts_split (slot_sub_own hc.1) _).2
    isplitl [Hs]; · iexact Hs
    iexact Hown
  isplitl [Hlow]; · iexists fn; rw [← low_sdiff hc]; iexact Hlow
  isplitl [HO]; · iexact HO
  isplitl [HaV HcV]; · isplitl [HaV] <;> iassumption
  isplitl [Hrest]; · iexact Hrest
  isplitl [Hz] <;> iassumption

/-- The guarded copy, not taken. -/
theorem send_skipped (c : Dev nD) (h : Fin 15) (hc : ¬ (h.val ≤ c.val ∧ c.val < 15)) :
    St m ρ K c h.val ⊢ wp frame (wpE (defs₀ (F := F)) 𝒱₀ (c : Thread nD τ) none) Set.univ (Prog.ret (⟨⟩ : PUnit)) (fun _ => Mid m ρ K c h) := by
  unfold St Mid lowPts
  rw [restFrom_peel]
  unfold stepRes
  iintro ⟨#HR, #Hlev, Hown, ⟨%fn, Hlow⟩, HO, ⟨⟨HaS, -, -, HaV, HcV⟩, Hrest⟩, Hdone⟩
  rw [wp_ret]
  imod (close_unused m ρ K c (sendK h) (if_neg hc)) $$ [HaS] with Hz
  · isplitr; · iexact HR
    iexact HaS
  imodintro
  isplitr; · iexact HR
  isplitr; · iexact Hlev
  isplitl [Hown]; · iexact Hown
  isplitl [Hlow]; · iexists fn; rw [← low_skip hc]; iexact Hlow
  isplitl [HO]; · rw [← Ox_skip hc]; iexact HO
  isplitl [HaV HcV]; · isplitl [HaV] <;> iassumption
  isplitl [Hrest]; · iexact Hrest
  isplitl [Hz] <;> iassumption

/-- The guarded wait for the copy coming in, taken. -/
theorem recv_taken (c : Dev nD) (h : Fin 15) (hc : h.val + 1 ≤ c.val) {off : Fin 6 → ℕ} {inb} {sR : DmaSem sig} (hR : sR = recvS h) {h1} {h2} :
    Mid m ρ K c h ⊢ wp frame (wpE (defs₀ (F := F)) 𝒱₀ (c : Thread nD τ) none) Set.univ
      (Prog.op (.waitDma2 sR (slotM off inb) (slotM off inb) h1 h2) fun _ => Prog.ret (⟨⟩ : PUnit)) (fun _ => St m ρ K c (h.val + 1)) := by
  subst hR
  unfold St Mid
  rw [doneTo_push, show inAmt c h = N from if_pos hc]
  unfold stepDone
  iintro ⟨#HR, #Hlev, Hown, Hlow, HO, ⟨HaV, HcV⟩, Hrest, HzS, Hdone⟩
  iapply (wp_await m ρ K c (.inr h) (recvS h) rfl (duty_recv hc) (h.val + 1) (by omega) (by show 2 + h.val < _; omega)) $$ [HcV HO HaV]
  · isplitr; · iexact HR
    isplitr; · iexact Hlev
    isplitl [HO]; · iexact HO
    isplitl [HaV] <;> iassumption
  rw [payK_recv]
  iintro ⟨HO, Hs, Hz⟩
  rw [wp_ret]; imodintro
  isplitr; · iexact HR
  isplitr; · iexact Hlev
  isplitl [Hs Hown]
  · rw [← own_union hc]
    iapply (kvPts_union (own_disj hc) _).2
    isplitl [Hown]; · iexact Hown
    iexact Hs
  isplitl [Hlow]; · iexact Hlow
  isplitl [HO]; · iexact HO
  isplitl [Hrest]; · iexact Hrest
  isplitl [HzS Hz]
  · isplitl [HzS] <;> iassumption
  iexact Hdone

/-- The guarded wait for the copy coming in, not taken. -/
theorem recv_skipped (c : Dev nD) (h : Fin 15) (hc : ¬ (h.val + 1 ≤ c.val)) :
    Mid m ρ K c h ⊢ wp frame (wpE (defs₀ (F := F)) 𝒱₀ (c : Thread nD τ) none) Set.univ (Prog.ret (⟨⟩ : PUnit)) (fun _ => St m ρ K c (h.val + 1)) := by
  unfold St Mid
  rw [doneTo_push]
  unfold stepDone
  iintro ⟨#HR, #Hlev, Hown, Hlow, HO, ⟨HaV, -⟩, Hrest, HzS, Hdone⟩
  rw [wp_ret]
  imod (close_unused m ρ K c (recvK h) (if_neg hc)) $$ [HaV] with Hz
  · isplitr; · iexact HR
    iexact HaV
  imodintro
  isplitr; · iexact HR
  isplitr; · iexact Hlev
  isplitl [Hown]; · rw [← own_skip hc]; iexact Hown
  isplitl [Hlow]; · iexact Hlow
  isplitl [HO]; · iexact HO
  isplitl [Hrest]; · iexact Hrest
  isplitl [HzS Hz]
  · isplitl [HzS] <;> iassumption
  iexact Hdone

/-! ## The guarded pieces as the program has them: with the rest of the program after them -/

/-- A part that has come to its end keeps what it holds. -/
theorem wp_done {c : Dev nD} {α : Type} (P : sProp 𝕄) (a : α) :
    P ⊢ wp frame (wpE (defs₀ (F := F)) 𝒱₀ (c : Thread nD τ) none) Set.univ (Prog.ret a) (fun _ => P) := by
  rw [wp_ret]
  iintro H
  imodintro
  iexact H

/-- A guarded piece followed by the rest `rest` of the program, from its two cases; the guard is stated as the protocol
    states it. -/
theorem wp_guard {c : Dev nD} {p q : Prop} [Decidable p] (hpq : p ↔ q) {P R : sProp 𝕄} {α : Type} {Q : α → sProp 𝕄}
    {A : p → Prog (TpuEff nD τ sig (Elt F) Λ₀ .tc) PUnit} {A' : p → Prog (TpuEff nD τ sig (Elt F) Λ₀ .tc) α}
    {rest : Prog (TpuEff nD τ sig (Elt F) Λ₀ .tc) α}
    (hA : ∀ h, A' h = A h >>= fun _ => rest)
    (ht : ∀ h : p, q → P ⊢ wp frame (wpE (defs₀ (F := F)) 𝒱₀ (c : Thread nD τ) none) Set.univ (A h) (fun _ => R))
    (hf : ¬ q → P ⊢ wp frame (wpE (defs₀ (F := F)) 𝒱₀ (c : Thread nD τ) none) Set.univ (Prog.ret (⟨⟩ : PUnit)) (fun _ => R))
    (hR : R ⊢ wp frame (wpE (defs₀ (F := F)) 𝒱₀ (c : Thread nD τ) none) Set.univ rest Q) :
    P ⊢ wp frame (wpE (defs₀ (F := F)) 𝒱₀ (c : Thread nD τ) none) Set.univ (dite p A' (fun _ => rest)) Q := by
  have hgo (B : Prog (TpuEff nD τ sig (Elt F) Λ₀ .tc) PUnit)
      (hB : P ⊢ wp frame (wpE (defs₀ (F := F)) 𝒱₀ (c : Thread nD τ) none) Set.univ B (fun _ => R)) :
      P ⊢ wp frame (wpE (defs₀ (F := F)) 𝒱₀ (c : Thread nD τ) none) Set.univ (B >>= fun _ => rest) Q := by
    rw [wp_bind]
    exact BI.Entails.trans hB (Idealize.SL.Sem.wp_mono _ _ _ fun _ => hR)
  by_cases h : p
  · rw [dif_pos h, hA h]; exact hgo _ (ht h (hpq.mp h))
  · rw [dif_neg h]; exact hgo (Prog.ret ⟨⟩) (hf (fun hq => h (hpq.mpr hq)))

/-- The copy of step `h`, guarded by `cond`, before the rest of the program. -/
theorem step_send (c : Dev nD) (h : Fin 15) (cond : Dev nD → BitVec 1) (off : Dev nD → Fin 6 → ℕ) (dev : Dev nD → ℕ)
    (hcond : ∀ c : Dev nD, cond c = 1#1 ↔ h.val ≤ c.val ∧ c.val < 15)
    (hoff : ∀ c : Dev nD, cond c = 1#1 → off c = ![c.val - h.val, 0, 0, 0, 0, 0])
    (hdev : ∀ c : Dev nD, cond c = 1#1 → dev c = (nxt c).val)
    {α : Type} {Q : α → sProp 𝕄} {rest : Prog (TpuEff nD τ sig (Elt F) Λ₀ .tc) α}
    {lt : cond c = 1#1 → dev c < nD} {inb : cond c = 1#1 → ∀ a, off c a + S1x2x2x128x4x64.size a ≤ S16x2x2x128x4x64.size a}
    {hsc : ∀ hp, (slotM (off c) (inb hp)).view.ref.isScScratch = false} {hsrc : ∀ hp, _} {hdst : ∀ hp, _} {hsem : ∀ hp, _}
    {h1 : ∀ hp, _} {h2 : ∀ hp, _}
    (hR : Mid m ρ K c h ⊢ wp frame (wpE (defs₀ (F := F)) 𝒱₀ (c : Thread nD τ) none) Set.univ rest Q) :
    St m ρ K c h.val ⊢ wp frame (wpE (defs₀ (F := F)) 𝒱₀ (c : Thread nD τ) none) Set.univ
      (if hp : cond c = 1#1 then do
          Prog.lift (.enqueueDma (slotM (off c) (inb hp)) (.remote (Dev.tc (⟨dev c, lt hp⟩ : Dev nD) : Thread nD τ) (slotM (off c) (inb hp)) (.dma (sendS h)) (hsc hp))
            (.dma (recvS h)) (hsrc hp) (hdst hp) (hsem hp))
          Prog.lift (.waitDma2 (sendS h) (slotM (off c) (inb hp)) (slotM (off c) (inb hp)) (h1 hp) (h2 hp))
          rest
        else rest) Q :=
  wp_guard (A := fun hp => Prog.op (.enqueueDma (slotM (off c) (inb hp)) (.remote (Dev.tc (⟨dev c, lt hp⟩ : Dev nD) : Thread nD τ) (slotM (off c) (inb hp)) (.dma (sendS h)) (hsc hp))
            (.dma (recvS h)) (hsrc hp) (hdst hp) (hsem hp)) fun _ =>
          Prog.op (.waitDma2 (sendS h) (slotM (off c) (inb hp)) (slotM (off c) (inb hp)) (h1 hp) (h2 hp)) fun _ => Prog.ret ⟨⟩)
    (hcond c) (fun _ => rfl)
    (fun hp hq => send_taken m ρ K c h hq (hoff c hp) (Fin.ext (hdev c hp)) rfl rfl) (fun hq => send_skipped m ρ K c h hq) hR

/-- The wait for the copy coming in of step `h`, guarded by `cond`, before the rest of the program. -/
theorem step_recv (c : Dev nD) (h : Fin 15) (cond : Dev nD → BitVec 1) (off : Dev nD → Fin 6 → ℕ) (hcond : ∀ c : Dev nD, cond c = 1#1 ↔ h.val + 1 ≤ c.val)
    {α : Type} {Q : α → sProp 𝕄} {rest : Prog (TpuEff nD τ sig (Elt F) Λ₀ .tc) α}
    {inb : cond c = 1#1 → ∀ a, off c a + S1x2x2x128x4x64.size a ≤ S16x2x2x128x4x64.size a} {h1 : ∀ hp, _} {h2 : ∀ hp, _}
    (hR : St m ρ K c (h.val + 1) ⊢ wp frame (wpE (defs₀ (F := F)) 𝒱₀ (c : Thread nD τ) none) Set.univ rest Q) :
    Mid m ρ K c h ⊢ wp frame (wpE (defs₀ (F := F)) 𝒱₀ (c : Thread nD τ) none) Set.univ
      (if hp : cond c = 1#1 then do
          Prog.lift (.waitDma2 (recvS h) (slotM (off c) (inb hp)) (slotM (off c) (inb hp)) (h1 hp) (h2 hp))
          rest
        else rest) Q :=
  wp_guard (A := fun hp => Prog.op (.waitDma2 (recvS h) (slotM (off c) (inb hp)) (slotM (off c) (inb hp)) (h1 hp) (h2 hp)) fun _ => Prog.ret ⟨⟩)
    (hcond c) (fun _ => rfl) (fun _ hq => recv_taken m ρ K c h hq rfl) (fun hq => recv_skipped m ρ K c h hq) hR

end Cert.KernelIdealProof

end
-- ==== Proof.Exchange.lean ====
/-
# The exchange, part by part

The program is cut into parts; parts 2 to 7 hold the fifteen steps of the exchange. Each part is the two step rules, in
turn, with that step's guard, offset and target read off at every device.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CIx → ℕ)

attribute [local irreducible] Idealize.SL.Sem.wp

/-- The staged block of `x`. -/
abbrev xM : Memref sig .tc .vmem S2x128x512 .bf16 := Memref.whole cc0_stg0_0
/-- The staged query matrix. -/
abbrev wqM : Memref sig .tc .vmem S512x256 .bf16 := Memref.whole cc0_stg1_0
/-- The staged keys. -/
abbrev keyM : Memref sig .tc .vmem S2x128x4x64 .bf16 := Memref.whole cc0_stg2_0
/-- The staged values. -/
abbrev valM : Memref sig .tc .vmem S2x128x4x64 .bf16 := Memref.whole cc0_stg3_0
/-- The staged output matrix. -/
abbrev woM : Memref sig .tc .vmem S256x512 .bf16 := Memref.whole cc0_stg4_0
/-- The staged result. -/
abbrev outM : Memref sig .tc .vmem S2x128x512 .f32 := Memref.whole cc0_stg5_0

/-- Steps 2, 3, 4. -/
theorem wp_part3 (c : Dev nD) (v2 : BitVec 32) (u w : BitVec 1) :
    St m ρ K c 2 ⊢ wp frame (wpE (defs₀ (F := F)) 𝒱₀ (c : Thread nD τ) none) Set.univ
      (k0_part3 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2 u w)
      (fun _ => St m ρ K c 5) := by
  rw [k0_part3_eq_skeleton]
  unfold k0_part3_skel
  refine step_send m ρ K c 2 k0_cond5 k0_off7 k0_dev5 (by decide +kernel) (by decide +kernel) (by decide +kernel) ?_
  refine step_recv m ρ K c 2 k0_cond6 k0_off8 (by decide +kernel) ?_
  refine step_send m ρ K c 3 k0_cond7 k0_off9 k0_dev6 (by decide +kernel) (by decide +kernel) (by decide +kernel) ?_
  refine step_recv m ρ K c 3 k0_cond8 k0_off10 (by decide +kernel) ?_
  refine step_send m ρ K c 4 k0_cond9 k0_off11 k0_dev7 (by decide +kernel) (by decide +kernel) (by decide +kernel) ?_
  refine step_recv m ρ K c 4 k0_cond10 k0_off12 (by decide +kernel) ?_
  exact wp_done _ _

/-- Steps 5, 6, 7. -/
theorem wp_part4 (c : Dev nD) (v2 : BitVec 32) (u : BitVec 1) (w : BitVec 32) :
    St m ρ K c 5 ⊢ wp frame (wpE (defs₀ (F := F)) 𝒱₀ (c : Thread nD τ) none) Set.univ
      (k0_part4 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2 u w)
      (fun _ => St m ρ K c 8) := by
  rw [k0_part4_eq_skeleton]
  unfold k0_part4_skel
  refine step_send m ρ K c 5 k0_cond11 k0_off13 k0_dev8 (by decide +kernel) (by decide +kernel) (by decide +kernel) ?_
  refine step_recv m ρ K c 5 k0_cond12 k0_off14 (by decide +kernel) ?_
  refine step_send m ρ K c 6 k0_cond13 k0_off15 k0_dev9 (by decide +kernel) (by decide +kernel) (by decide +kernel) ?_
  refine step_recv m ρ K c 6 k0_cond14 k0_off16 (by decide +kernel) ?_
  refine step_send m ρ K c 7 k0_cond15 k0_off17 k0_dev10 (by decide +kernel) (by decide +kernel) (by decide +kernel) ?_
  refine step_recv m ρ K c 7 k0_cond16 k0_off18 (by decide +kernel) ?_
  exact wp_done _ _

/-- Steps 8, 9, 10 and the copy of step 11. -/
theorem wp_part5 (c : Dev nD) (v2 : BitVec 32) (u : BitVec 1) (w : BitVec 32) :
    St m ρ K c 8 ⊢ wp frame (wpE (defs₀ (F := F)) 𝒱₀ (c : Thread nD τ) none) Set.univ
      (k0_part5 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2 u w)
      (fun _ => Mid m ρ K c 11) := by
  rw [k0_part5_eq_skeleton]
  unfold k0_part5_skel
  refine step_send m ρ K c 8 k0_cond17 k0_off19 k0_dev11 (by decide +kernel) (by decide +kernel) (by decide +kernel) ?_
  refine step_recv m ρ K c 8 k0_cond18 k0_off20 (by decide +kernel) ?_
  refine step_send m ρ K c 9 k0_cond19 k0_off21 k0_dev12 (by decide +kernel) (by decide +kernel) (by decide +kernel) ?_
  refine step_recv m ρ K c 9 k0_cond20 k0_off22 (by decide +kernel) ?_
  refine step_send m ρ K c 10 k0_cond21 k0_off23 k0_dev13 (by decide +kernel) (by decide +kernel) (by decide +kernel) ?_
  refine step_recv m ρ K c 10 k0_cond22 k0_off24 (by decide +kernel) ?_
  refine step_send m ρ K c 11 k0_cond23 k0_off25 k0_dev14 (by decide +kernel) (by decide +kernel) (by decide +kernel) ?_
  exact wp_done _ _

/-- The wait of step 11, steps 12, 13 and the copy of step 14. -/
theorem wp_part6 (c : Dev nD) (v2 : BitVec 32) (u : BitVec 1) :
    Mid m ρ K c 11 ⊢ wp frame (wpE (defs₀ (F := F)) 𝒱₀ (c : Thread nD τ) none) Set.univ
      (k0_part6 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2 u)
      (fun _ => Mid m ρ K c 14) := by
  rw [k0_part6_eq_skeleton]
  unfold k0_part6_skel
  refine step_recv m ρ K c 11 k0_cond24 k0_off26 (by decide +kernel) ?_
  refine step_send m ρ K c 12 k0_cond25 k0_off27 k0_dev15 (by decide +kernel) (by decide +kernel) (by decide +kernel) ?_
  refine step_recv m ρ K c 12 k0_cond26 k0_off28 (by decide +kernel) ?_
  refine step_send m ρ K c 13 k0_cond27 k0_off29 k0_dev16 (by decide +kernel) (by decide +kernel) (by decide +kernel) ?_
  refine step_recv m ρ K c 13 k0_cond28 k0_off30 (by decide +kernel) ?_
  refine step_send m ρ K c 14 k0_cond29 k0_off31 k0_dev17 (by decide +kernel) (by decide +kernel) (by decide +kernel) ?_
  exact wp_done _ _

/-- The wait of step 14, and the arithmetic of the mask. -/
theorem wp_part7 (c : Dev nD) (v2 : BitVec 32) :
    Mid m ρ K c 14 ⊢ wp frame (wpE (defs₀ (F := F)) 𝒱₀ (c : Thread nD τ) none) Set.univ
      (k0_part7 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2)
      (fun r => iprop(⌜r = ⟨iota .tc S128x2048 32 [1] iota_S128x2048_d1_w32, k0_pay5 v2, k0_pay6, k0_pay7, k0_pay8⟩⌝ ∗ St m ρ K c 15)) := by
  rw [k0_part7_eq_skeleton]
  unfold k0_part7_skel
  refine step_recv m ρ K c 14 k0_cond30 k0_off32 (by decide +kernel) ?_
  rw [Prog.pure_eq_ret, wp_ret]
  iintro H
  imodintro
  isplitr; · ipureintro; rfl
  iexact H

end Cert.KernelIdealProof

end
-- ==== Proof.Start.lean ====
/-
# The start of the kernel: the zeroed buffer, the first barrier, the device's own slot, steps 0 and 1
-/
module

public import proofs.«01_k».proof.Proof.Exchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CIx → ℕ)

/-- A whole buffer of device `c`, at `X`. -/
def whole (c : Dev nD) (b : Ref sig .tc) (X : b.ty.Contents (Elt F)) : sProp 𝕄 := (((c : Thread nD τ).loc b) ↦{fullShare} X)

/-- The device's position as the kernel computes it. -/
abbrev posW (c : Dev nD) : BitVec 32 := Scalar.remsi (Scalar.divsi (Dev.word c) 1#32) 16#32

/-- Four zero offsets. -/
theorem hz4 : (![0, 0, 0, 0] : Fin 4 → Nat) = fun _ => 0 := funext fun a => by fin_cases a <;> rfl
/-- Six zero offsets. -/
theorem hz6 : (![0, 0, 0, 0, 0, 0] : Fin 6 → Nat) = fun _ => 0 := funext fun a => by fin_cases a <;> rfl

/-- The elements under the key half, and under the value half, of the own slot. -/
theorem mem_keyR {c : Dev nD} {i : S16x2x2x128x4x64.Idx} : i ∈ (kvM.access (keyR c)).set → i ∈ ownSet c 0 := by
  intro h
  rw [show (kvM.access (keyR c)).set = (keyR c).set from View.set_slice_whole _ _] at h
  have h0 := (Rect.mem_set_unit.mp h) 0
  rw [k0_off1_eq] at h0
  have : c.val ≤ (i 0).val ∧ (i 0).val < c.val + 1 := h0
  rw [mem_ownSet]; show c.val ≤ (i 0).val + 0 ∧ (i 0).val ≤ c.val; omega
/-- The value half of a device's own slot is in the slots that it holds filled. -/
theorem mem_valR {c : Dev nD} {i : S16x2x2x128x4x64.Idx} : i ∈ (kvM.access (valR c)).set → i ∈ ownSet c 0 := by
  intro h
  rw [show (kvM.access (valR c)).set = (valR c).set from View.set_slice_whole _ _] at h
  have h0 := (Rect.mem_set_unit.mp h) 0
  rw [k0_off2_eq] at h0
  have : c.val ≤ (i 0).val ∧ (i 0).val < c.val + 1 := h0
  rw [mem_ownSet]; show c.val ≤ (i 0).val + 0 ∧ (i 0).val ≤ c.val; omega

/-- The whole buffer: the slots below the own one, the own one, the later ones. -/
theorem kv_regions (c : Dev nD) (f : KVBuf F) :
    (kvPts c Finset.univ f : sProp 𝕄) ⊣⊢ iprop(kvPts c (lowSet c 0) f ∗ kvPts c (ownSet c 0) f ∗ kvPts c (highSet c) f) := by
  have h1 : Disjoint (lowSet c 0) (ownSet c 0 ∪ highSet c) := Finset.disjoint_left.mpr fun i h1 h2 => by
    rw [mem_lowSet] at h1; rw [Finset.mem_union, mem_ownSet, mem_highSet] at h2; omega
  have h2 : Disjoint (ownSet c 0) (highSet c) := Finset.disjoint_left.mpr fun i h1 h2 => by
    rw [mem_ownSet] at h1; rw [mem_highSet] at h2; omega
  have hu : (Finset.univ : Finset S16x2x2x128x4x64.Idx) = lowSet c 0 ∪ (ownSet c 0 ∪ highSet c) := by
    ext i; rw [Finset.mem_union, Finset.mem_union, mem_lowSet, mem_ownSet, mem_highSet]
    simp only [Finset.mem_univ, true_iff]; omega
  rw [hu]
  refine ⟨?_, ?_⟩
  · iintro H
    ihave H := (kvPts_union h1 f).1 $$ H
    icases H with ⟨Hl, H⟩
    isplitl [Hl]; · iexact Hl
    iapply (kvPts_union h2 f).1; iexact H
  · iintro ⟨Hl, H⟩
    iapply (kvPts_union h1 f).2
    isplitl [Hl]; · iexact Hl
    iapply (kvPts_union h2 f).2; iexact H

/-- What the first part starts from. -/
def Pre (c : Dev nD) : sProp 𝕄 :=
  iprop(records m ρ K ∗ levAts L lv ∗ (∃ f : KVBuf F, kvPts c Finset.univ f) ∗ owing c (O₀ c)
    ∗ dutyTok ER (kcell (prv c) barK) 0 true ∗ dutyTok ER (kcell (nxt c) barK) 0 false
    ∗ atPos ER (kcell c barK) 0 ∅ 0 ∗ cred (tallyAt (kcell c barK) () 2) ∗ whole c cc0_stg2_0 (kstg m ρ c))
/-- What it leaves: the own slot with the keys stored, the later slots zeroed, the lower slots of the next device. -/
def Ready (c : Dev nD) : sProp 𝕄 :=
  iprop(records m ρ K ∗ levAts L lv ∗ kvPts c (ownSet c 0) (kv1 m ρ c) ∗ kvPts c (highSet c) kv0 ∗ lowPts c 0 ∗ owing c (Ox c 0)
    ∗ semVal (kcell c barK) 0 ∗ whole c cc0_stg2_0 (kstg m ρ c))

/-- The first signal goes to the device before. -/
theorem dev_prv (c : Dev nD) : (⟨k0_dev1 c, k0_dev1_lt c⟩ : Dev nD) = prv c := Fin.ext ((by decide +kernel : ∀ c : Dev nD, k0_dev1 c = (prv c).val) c)
/-- The second signal goes to the device after. -/
theorem dev_nxt (c : Dev nD) : (⟨k0_dev2 c, k0_dev2_lt c⟩ : Dev nD) = nxt c := Fin.ext ((by decide +kernel : ∀ c : Dev nD, k0_dev2 c = (nxt c).val) c)

/-- All of the buffer, as the kernel's first store names it. -/
abbrev kvR : Rect S16x2x2x128x4x64 := Rect.unit (s := S16x2x2x128x4x64) ![0, 0, 0, 0, 0, 0] S16x2x2x128x4x64.size inb_S16x2x2x128x4x64_S16x2x2x128x4x64_0_0_0_0_0_0

/-- A store over the whole buffer leaves what was stored. -/
theorem kvWhole_write (f : KVBuf F) (w) :
    (kvM.access kvR).write (Elt F) f w Finset.univ = w :=
  Memref.write_access_unit_zero_univ (Elt F) cc0_scratch0 hz6 _ f w
/-- Elements of the buffer as an access through a rectangle names them. -/
theorem kvPts_back (c : Dev nD) (r : Rect S16x2x2x128x4x64) (S : Finset S16x2x2x128x4x64.Idx) (f : KVBuf F) :
    ((kvM.access r).loc (c : Thread nD τ) ↦[S]{fullShare} f : sProp 𝕄) ⊢ kvPts c S f := BI.Entails.refl _
/-- A load of the staged keys gives them. -/
theorem read_key (f : (cc0_stg2_0 : Ref sig .tc).ty.Contents (Elt F)) :
    keyM.view.readAt (Elt F) (Rect.unit (s := S2x128x4x64) ![0, 0, 0, 0] S2x128x4x64.size inb_S2x128x4x64_S2x128x4x64_0_0_0_0).toLoadRect f = f :=
  Memref.readAt_unit_zero (Elt F) cc0_stg2_0 hz4 _ f
/-- A load of the staged values gives them. -/
theorem read_val (f : (cc0_stg3_0 : Ref sig .tc).ty.Contents (Elt F)) :
    valM.view.readAt (Elt F) (Rect.unit (s := S2x128x4x64) ![0, 0, 0, 0] S2x128x4x64.size inb_S2x128x4x64_S2x128x4x64_0_0_0_0).toLoadRect f = f :=
  Memref.readAt_unit_zero (Elt F) cc0_stg3_0 hz4 _ f

/-- The first part: the buffer is zeroed, the runtime's barrier passed, and the device's own keys are stored. -/
theorem wp_part1 (c : Dev nD) :
    Pre m ρ K c ⊢ wp frame (wpE (defs₀ (F := F)) 𝒱₀ (c : Thread nD τ) none) Set.univ
      (k0_part1 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0)
      (fun r => iprop(⌜r.1 = c ∧ r.2.1 = posW c⌝ ∗ Ready m ρ K c)) := by
  rw [k0_part1_eq_skeleton]
  unfold k0_part1_skel
  simp only [semSignalWord, semWaitWord, Prog.lift, Prog.bind_op, Prog.bind_ret, Prog.pure_eq_ret, wp_deviceId]
  unfold Pre Ready owing whole
  iintro ⟨#HR, #Hlev, ⟨%f, Hkv⟩, ⟨%W, HO⟩, HtP, HtN, Hat, Hc, Hkey⟩
  simp only [dev_prv c, dev_nxt c]
  unfold kvPts
  iapply (wp_load 𝒱₀ (c : Thread nD τ) none Set.univ (m := kvM) (Finset.subset_univ _)) $$ Hkv; iintro Hkv
  iapply (wp_store 𝒱₀ (c : Thread nD τ) none Set.univ (m := kvM) (r := kvR) (Mk := Finset.univ) (Finset.subset_univ _)) $$ Hkv; iintro Hkv
  rw [kvWhole_write]
  ihave Hkv := (kvPts_back c kvR Finset.univ _) $$ Hkv
  ihave Hkv := (kv_regions c _).1 $$ Hkv
  icases Hkv with ⟨Hlow, Hown, Hhigh⟩
  -- to the device before: its duty `true`, with the slots below the own one
  iapply (Rounds.wp_signal 𝒱₀ ER (ringRd m ρ) (c : Thread nD τ) none (dst := (prv c : Thread nD τ)) (κ := K (prv c, barK))
      (d := true) (by rw [show ((prv c : Thread nD τ), SemLoc.reg barS) = kcell (prv c) barK from rfl, duties_k]; exact Finset.mem_univ _)
      ((amount_k m ρ (prv c) barK true).trans (by decide)) () (O₁ c) rfl) $$ [HO HtP Hlow]
  · isplitr; · iapply (inv_at m ρ K (prv c) barK); iexact HR
    isplitl [HO]; · iexact HO
    isplitl [HtP]; · iexact HtP
    isplitl [Hlow]
    · rw [show ((prv c : Thread nD τ), SemLoc.reg barS) = kcell (prv c) barK from rfl, payload_k,
        show payK m ρ (prv c) (.inl false) true = barPay (prv c) from rfl]
      unfold barPay; rw [nxt_prv]; iexists _; iexact Hlow
    · iapply (reached_at m ρ K (prv c) barK); iexact HR
  iintro HO
  -- to the device after: its duty `false`, nothing to hand over
  iapply (Rounds.wp_signal 𝒱₀ ER (ringRd m ρ) (c : Thread nD τ) none (dst := (nxt c : Thread nD τ)) (κ := K (nxt c, barK))
      (d := false) (by rw [show ((nxt c : Thread nD τ), SemLoc.reg barS) = kcell (nxt c) barK from rfl, duties_k]; exact Finset.mem_univ _)
      ((amount_k m ρ (nxt c) barK false).trans (by decide)) () (Ox c 0) rfl) $$ [HO HtN]
  · isplitr; · iapply (inv_at m ρ K (nxt c) barK); iexact HR
    isplitl [HO]; · iexact HO
    isplitl [HtN]; · iexact HtN
    isplitr
    · rw [show ((nxt c : Thread nD τ), SemLoc.reg barS) = kcell (nxt c) barK from rfl, payload_k,
        show (payK m ρ (nxt c) (.inl false) false : sProp 𝕄) = iprop(emp) from rfl]
      iempintro
    · iapply (reached_at m ρ K (nxt c) barK); iexact HR
  iintro HO
  -- the wait for both neighbours: the slots of the device after that are to be filled come with it
  iapply (Rounds.wp_wait_rest_token 𝒱₀ ER (ringRd m ρ) (c : Thread nD τ) none (κ := K (c, barK))
      (wpE_semWait_eq 𝒱₀ (c : Thread nD τ) none Set.univ) (Set.mem_univ _) () (O := Ox c 0) (W := W) (R := 0) (m := 0) (T := ∅)
      (by rw [show ((c : Thread nD τ), SemLoc.reg barS) = kcell c barK from rfl, expect_barrier]; decide)) $$ [Hc HO Hat]
  · isplitr; · iapply (inv_at m ρ K c barK); iexact HR
    isplitl [Hc]; · iexact Hc
    isplitl [HO]; · iexact HO
    isplitr; · iapply (mayWait_ring c barK 0 (by decide) (by decide)); iexact Hlev
    iexact Hat
  iintro ⟨HO, Hat, -, Hpay⟩
  have hrest : bigSep ((ringRd (F := F) m ρ).duties ((c : Thread nD τ), SemLoc.reg barS) 0 \ ∅)
      (fun d => (ringRd m ρ).payload ((c : Thread nD τ), SemLoc.reg barS) 0 d) ⊢ iprop(emp ∗ barPay c) :=
    Entails.of_eq (rest_barrier m ρ c false)
  ihave Hp := hrest $$ Hpay
  icases Hp with ⟨-, Hlow⟩
  imod (Rounds.cell_close ER (ringRd m ρ) (Set.mem_univ (K (c, barK))) (fun h => h) (R := 0 + 1) (duties_later m ρ (kcell c barK))) $$ [Hat] with Hz
  · isplitr; · iapply (inv_at m ρ K c barK); iexact HR
    iexact Hat
  iapply (wp_load 𝒱₀ (c : Thread nD τ) none Set.univ (m := keyM) (Finset.subset_univ _)) $$ Hkey; iintro Hkey
  rw [read_key]
  unfold kvPts
  iapply (wp_load_rect 𝒱₀ (c : Thread nD τ) none Set.univ (m := kvM) (r := keyR c) (fun i hi => mem_keyR hi)) $$ Hown; iintro Hown
  iapply (wp_store 𝒱₀ (c : Thread nD τ) none Set.univ (m := kvM) (r := keyR c) (Mk := Finset.univ) (fun i hi => mem_keyR hi)) $$ Hown; iintro Hown
  rw [wp_ret]; imodintro
  isplitr; · ipureintro; exact ⟨rfl, rfl⟩
  isplitr; · iexact HR
  isplitr; · iexact Hlev
  isplitl [Hown]; · iexact Hown
  isplitl [Hhigh]; · iexact Hhigh
  isplitl [Hlow]; · unfold barPay lowPts kvPts; iexact Hlow
  isplitl [HO]; · iexists _; iexact HO
  isplitl [Hz] <;> iassumption

/-- The values into the own slot: it is then what `kvAll` says. -/
theorem own_filled (c : Dev nD) : ∀ i ∈ ownSet c 0, kv2 m ρ c i = kvAll m ρ i := fun i hi => by
  rw [mem_ownSet] at hi
  have : slotOf i = c := Fin.ext (by omega)
  unfold kvAll; rw [this]

/-- The store of the device's own values completes its slot. -/
theorem wp_storeVal (c : Dev nD) {α : Type} {Q : α → sProp 𝕄} {rest : Prog (TpuEff nD τ sig (Elt F) Λ₀ .tc) α} {P R : sProp 𝕄} {h1 h2 h3 h4}
    (hP : P ⊢ iprop(kvPts c (ownSet c 0) (kv1 m ρ c) ∗ whole c cc0_stg3_0 (vstg m ρ c) ∗ R))
    (hR : iprop(kvPts c (ownSet c 0) (kvAll m ρ) ∗ whole c cc0_stg3_0 (vstg m ρ c) ∗ R)
      ⊢ wp frame (wpE (defs₀ (F := F)) 𝒱₀ (c : Thread nD τ) none) Set.univ rest Q) :
    P ⊢ wp frame (wpE (defs₀ (F := F)) 𝒱₀ (c : Thread nD τ) none) Set.univ
      (Prog.lift (.load valM (Rect.unit (s := S2x128x4x64) ![0, 0, 0, 0] S2x128x4x64.size inb_S2x128x4x64_S2x128x4x64_0_0_0_0).toLoadRect h1) >>= fun v =>
        Prog.lift (.load kvM (valR c).toLoadRect h2) >>= fun _ =>
        Prog.lift (.store kvM (valR c) (k0_pay4 v) Finset.univ h3 h4) >>= fun _ => rest) Q := by
  simp only [Prog.lift, Prog.bind_op, Prog.bind_ret]
  unfold whole at *
  iintro HP
  ihave H := hP $$ HP
  icases H with ⟨Hown, Hval, HR⟩
  unfold kvPts at *
  iapply (wp_load 𝒱₀ (c : Thread nD τ) none Set.univ (m := valM) (Finset.subset_univ _)) $$ Hval; iintro Hval
  rw [read_val]
  iapply (wp_load_rect 𝒱₀ (c : Thread nD τ) none Set.univ (m := kvM) (r := valR c) (fun i hi => mem_valR hi)) $$ Hown; iintro Hown
  iapply (wp_store 𝒱₀ (c : Thread nD τ) none Set.univ (m := kvM) (r := valR c) (Mk := Finset.univ) (fun i hi => mem_valR hi)) $$ Hown; iintro Hown
  rw [show (kvM.access (valR c)).write (Elt F) (kv1 m ρ c) (k0_pay4 (vstg m ρ c)) Finset.univ = kv2 m ρ c from rfl]
  iapply hR
  isplitl [Hown]
  · ihave Hown := (kvPts_back c (valR c) (ownSet c 0) (kv2 m ρ c)) $$ Hown
    ihave Hown := (Entails.of_eq (kvPts_congr (own_filled m ρ c))) $$ Hown
    unfold kvPts; iexact Hown
  isplitl [Hval] <;> iassumption

/-- Something kept aside over the rest of a part. -/
theorem wp_aside {c : Dev nD} {α : Type} {P R X : sProp 𝕄} {rest : Prog (TpuEff nD τ sig (Elt F) Λ₀ .tc) α}
    (h : P ⊢ wp frame (wpE (defs₀ (F := F)) 𝒱₀ (c : Thread nD τ) none) Set.univ rest (fun _ => R)) :
    iprop(P ∗ X) ⊢ wp frame (wpE (defs₀ (F := F)) 𝒱₀ (c : Thread nD τ) none) Set.univ rest (fun _ => iprop(R ∗ X)) :=
  BI.Entails.trans (Idealize.SL.BI.sep_mono h (BI.Entails.refl _)) (wp_frame_r _ _ _)

/-- The pieces that the steps start from. -/
theorem st_start (c : Dev nD) :
    iprop(kvPts c (ownSet c 0) (kvAll m ρ) ∗ whole c cc0_stg3_0 (vstg m ρ c)
        ∗ records m ρ K ∗ levAts L lv ∗ lowPts c 0 ∗ owing c (Ox c 0) ∗ restFrom c 0)
      ⊢ iprop(St m ρ K c 0 ∗ whole c cc0_stg3_0 (vstg m ρ c)) := by
  unfold St
  iintro ⟨Hown, Hval, #HR, #Hlev, Hlow, HO, Hrest⟩
  isplitr [Hval]
  · isplitr; · iexact HR
    isplitr; · iexact Hlev
    isplitl [Hown]; · iexact Hown
    isplitl [Hlow]; · iexact Hlow
    isplitl [HO]; · iexact HO
    isplitl [Hrest]; · iexact Hrest
    unfold doneTo
    rw [Finset.filter_false_of_mem (fun x _ => Nat.not_lt_zero _), bigSep_empty]
    iempintro
  iexact Hval

attribute [local irreducible] Idealize.SL.Sem.wp

/-- The second part: the values are stored, and the first two steps of the ring are done. -/
theorem wp_part2 (c : Dev nD) (v2 : BitVec 32) :
    iprop(records m ρ K ∗ levAts L lv ∗ kvPts c (ownSet c 0) (kv1 m ρ c) ∗ lowPts c 0 ∗ owing c (Ox c 0) ∗ restFrom c 0 ∗ whole c cc0_stg3_0 (vstg m ρ c))
      ⊢ wp frame (wpE (defs₀ (F := F)) 𝒱₀ (c : Thread nD τ) none) Set.univ
        (k0_part2 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 c v2)
        (fun _ => iprop(St m ρ K c 2 ∗ whole c cc0_stg3_0 (vstg m ρ c))) := by
  rw [k0_part2_eq_skeleton]
  unfold k0_part2_skel
  refine wp_storeVal m ρ c (R := iprop(records m ρ K ∗ levAts L lv ∗ lowPts c 0 ∗ owing c (Ox c 0) ∗ restFrom c 0)) ?_ ?_
  · iintro ⟨#HR, #Hlev, Hown, Hlow, HO, Hrest, Hval⟩
    isplitl [Hown]; · iexact Hown
    isplitl [Hval]; · iexact Hval
    isplitr; · iexact HR
    isplitr; · iexact Hlev
    isplitl [Hlow]; · iexact Hlow
    isplitl [HO] <;> iassumption
  refine BI.Entails.trans (st_start m ρ K c) (wp_aside ?_)
  refine step_send m ρ K c 0 k0_cond1 k0_off3 k0_dev3 (by decide +kernel) (by decide +kernel) (by decide +kernel) ?_
  refine step_recv m ρ K c 0 k0_cond2 k0_off4 (by decide +kernel) ?_
  refine step_send m ρ K c 1 k0_cond3 k0_off5 k0_dev4 (by decide +kernel) (by decide +kernel) (by decide +kernel) ?_
  refine step_recv m ρ K c 1 k0_cond4 k0_off6 (by decide +kernel) ?_
  exact wp_done _ _

end Cert.KernelIdealProof

end
-- ==== Proof.Compute.lean ====
/-
# The computation after the exchange

Parts 8 to 14 load heads of the key/value buffer, rows of the output weights, blocks of `x`, and compute. Each load gets
one rule, at any head, block or row; a part is those rules in turn, and what it returns is written down as a function of
the buffers.
-/
module

public import proofs.«01_k».proof.Proof.Start

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CIx → ℕ)

section Loads

variable (x : (cc0_stg0_0 : Ref sig .tc).ty.Contents (Elt F)) (wq : (cc0_stg1_0 : Ref sig .tc).ty.Contents (Elt F))
  (wo : (cc0_stg4_0 : Ref sig .tc).ty.Contents (Elt F)) (out : (cc0_stg5_0 : Ref sig .tc).ty.Contents (Elt F)) (kv : KVBuf F)

/-- The keys or values of one head and batch lie within the buffer. -/
theorem head_inb (p b : Fin 2) (hh : Fin 4) : ∀ a, (![0, p.val, b.val, 0, hh.val, 0] : Fin 6 → ℕ) a + S16x1x1x128x1x64.size a ≤ S16x2x2x128x4x64.size a := by
  intro a; revert p b hh; revert a; decide +kernel
/-- A batch's block lies within the array. -/
theorem block_inb (b : Fin 2) : ∀ a, (![b.val, 0, 0] : Fin 3 → ℕ) a + S1x128x512.size a ≤ S2x128x512.size a := by
  intro a; revert b; revert a; decide +kernel
/-- A head's rows of the output matrix lie within it. -/
theorem rows_inb (hh : Fin 4) : ∀ a, (![64 * hh.val, 0] : Fin 2 → ℕ) a + S64x512.size a ≤ S256x512.size a := by
  intro a; revert hh; revert a; decide +kernel

/-- The keys (`p` = 0) or values (`p` = 1) of batch `b`, head `hh`, in all slots. -/
abbrev headR (p b : Fin 2) (hh : Fin 4) : Rect S16x2x2x128x4x64 :=
  Rect.unit (s := S16x2x2x128x4x64) ![0, p.val, b.val, 0, hh.val, 0] S16x1x1x128x1x64.size (head_inb p b hh)
/-- The block of batch `b`. -/
abbrev blockR (b : Fin 2) : Rect S2x128x512 := Rect.unit (s := S2x128x512) ![b.val, 0, 0] S1x128x512.size (block_inb b)
/-- The rows of the output matrix that head `hh` uses. -/
abbrev rowsR (hh : Fin 4) : Rect S256x512 := Rect.unit (s := S256x512) ![64 * hh.val, 0] S64x512.size (rows_inb hh)

/-- Head `hh` of batch `b` of the keys (`p = 0`) or the values (`p = 1`), over all slots. -/
def kvLd (p b : Fin 2) (hh : Fin 4) : Vec F S16x1x1x128x1x64 .bf16 := kvM.view.readAt (Elt F) (headR p b hh).toLoadRect kv
/-- Batch `b` of the input block. -/
def xLd (b : Fin 2) : Vec F S1x128x512 .bf16 := xM.view.readAt (Elt F) (blockR b).toLoadRect x
/-- The rows of the output weights that belong to head `hh`. -/
def woLd (hh : Fin 4) : Vec F S64x512 .bf16 := woM.view.readAt (Elt F) (rowsR hh).toLoadRect wo

/-- The buffers the computation works on. -/
def Bufs (c : Dev nD) : sProp 𝕄 :=
  iprop(whole c cc0_stg0_0 x ∗ whole c cc0_stg1_0 wq ∗ whole c cc0_stg4_0 wo ∗ whole c cc0_stg5_0 out ∗ kvPts c Finset.univ kv)

/-- A load of one head's keys or values gives `kvLd` and changes nothing. -/
theorem ld_kv (p b : Fin 2) (hh : Fin 4) {c : Dev nD} {α : Type} {Q : α → sProp 𝕄} {h1} {k : Vec F S16x1x1x128x1x64 .bf16 → Prog (TpuEff nD τ sig (Elt F) Λ₀ .tc) α}
    (hR : Bufs x wq wo out kv c ⊢ wp frame (wpE (defs₀ (F := F)) 𝒱₀ (c : Thread nD τ) none) Set.univ (k (kvLd kv p b hh)) Q) :
    Bufs x wq wo out kv c ⊢ wp frame (wpE (defs₀ (F := F)) 𝒱₀ (c : Thread nD τ) none) Set.univ (Prog.lift (.load kvM (headR p b hh).toLoadRect h1) >>= k) Q := by
  simp only [Prog.lift, Prog.bind_op, Prog.bind_ret]
  unfold Bufs at *
  unfold kvPts whole at *
  iintro ⟨Hx, Hwq, Hwo, Hout, Hkv⟩
  iapply (wp_load 𝒱₀ (c : Thread nD τ) none Set.univ (m := kvM) (Finset.subset_univ _)) $$ Hkv; iintro Hkv
  iapply hR
  isplitl [Hx]; · iexact Hx
  isplitl [Hwq]; · iexact Hwq
  isplitl [Hwo]; · iexact Hwo
  isplitl [Hout] <;> iassumption

/-- A load of a batch of `x` gives `xLd` and changes nothing. -/
theorem ld_x (b : Fin 2) {c : Dev nD} {α : Type} {Q : α → sProp 𝕄} {h1} {k : Vec F S1x128x512 .bf16 → Prog (TpuEff nD τ sig (Elt F) Λ₀ .tc) α}
    (hR : Bufs x wq wo out kv c ⊢ wp frame (wpE (defs₀ (F := F)) 𝒱₀ (c : Thread nD τ) none) Set.univ (k (xLd x b)) Q) :
    Bufs x wq wo out kv c ⊢ wp frame (wpE (defs₀ (F := F)) 𝒱₀ (c : Thread nD τ) none) Set.univ (Prog.lift (.load xM (blockR b).toLoadRect h1) >>= k) Q := by
  simp only [Prog.lift, Prog.bind_op, Prog.bind_ret]
  unfold Bufs at *
  unfold whole at *
  iintro ⟨Hx, Hwq, Hwo, Hout, Hkv⟩
  iapply (wp_load 𝒱₀ (c : Thread nD τ) none Set.univ (m := xM) (Finset.subset_univ _)) $$ Hx; iintro Hx
  iapply hR
  isplitl [Hx]; · iexact Hx
  isplitl [Hwq]; · iexact Hwq
  isplitl [Hwo]; · iexact Hwo
  isplitl [Hout] <;> iassumption

/-- A load of a head's rows of the output matrix gives `woLd` and changes nothing. -/
theorem ld_wo (hh : Fin 4) {c : Dev nD} {α : Type} {Q : α → sProp 𝕄} {h1} {k : Vec F S64x512 .bf16 → Prog (TpuEff nD τ sig (Elt F) Λ₀ .tc) α}
    (hR : Bufs x wq wo out kv c ⊢ wp frame (wpE (defs₀ (F := F)) 𝒱₀ (c : Thread nD τ) none) Set.univ (k (woLd wo hh)) Q) :
    Bufs x wq wo out kv c ⊢ wp frame (wpE (defs₀ (F := F)) 𝒱₀ (c : Thread nD τ) none) Set.univ (Prog.lift (.load woM (rowsR hh).toLoadRect h1) >>= k) Q := by
  simp only [Prog.lift, Prog.bind_op, Prog.bind_ret]
  unfold Bufs at *
  unfold whole at *
  iintro ⟨Hx, Hwq, Hwo, Hout, Hkv⟩
  iapply (wp_load 𝒱₀ (c : Thread nD τ) none Set.univ (m := woM) (Finset.subset_univ _)) $$ Hwo; iintro Hwo
  iapply hR
  isplitl [Hx]; · iexact Hx
  isplitl [Hwq]; · iexact Hwq
  isplitl [Hwo]; · iexact Hwo
  isplitl [Hout] <;> iassumption

/-- Two zero offsets. -/
theorem hz2 : (![0, 0] : Fin 2 → Nat) = fun _ => 0 := funext fun a => by fin_cases a <;> rfl
/-- The whole query matrix. -/
abbrev wqR : Rect S512x256 := Rect.unit (s := S512x256) ![0, 0] S512x256.size inb_S512x256_S512x256_0_0
/-- A read of the whole query matrix is its contents. -/
theorem read_wq : wqM.view.readAt (Elt F) wqR.toLoadRect wq = wq := Memref.readAt_unit_zero (Elt F) cc0_stg1_0 hz2 _ wq

/-- A load of the query matrix gives its contents and changes nothing. -/
theorem ld_wq {c : Dev nD} {α : Type} {Q : α → sProp 𝕄} {h1} {k : Vec F S512x256 .bf16 → Prog (TpuEff nD τ sig (Elt F) Λ₀ .tc) α}
    (hR : Bufs x wq wo out kv c ⊢ wp frame (wpE (defs₀ (F := F)) 𝒱₀ (c : Thread nD τ) none) Set.univ (k wq) Q) :
    Bufs x wq wo out kv c ⊢ wp frame (wpE (defs₀ (F := F)) 𝒱₀ (c : Thread nD τ) none) Set.univ (Prog.lift (.load wqM wqR.toLoadRect h1) >>= k) Q := by
  simp only [Prog.lift, Prog.bind_op, Prog.bind_ret]
  unfold Bufs at *
  unfold whole at *
  iintro ⟨Hx, Hwq, Hwo, Hout, Hkv⟩
  iapply (wp_load 𝒱₀ (c : Thread nD τ) none Set.univ (m := wqM) (Finset.subset_univ _)) $$ Hwq; iintro Hwq
  rw [read_wq]
  iapply hR
  isplitl [Hx]; · iexact Hx
  isplitl [Hwq]; · iexact Hwq
  isplitl [Hwo]; · iexact Hwo
  isplitl [Hout] <;> iassumption

/-- Batch `b` of the result stored over `out`. -/
def outSet (b : Fin 2) (w : Vec F S1x128x512 .f32) : (cc0_stg5_0 : Ref sig .tc).ty.Contents (Elt F) :=
  (outM.access (blockR b)).write (Elt F) out w Finset.univ

/-- The kernel reads the result block before it stores it; what it reads is not used. -/
theorem st_out (b : Fin 2) {c : Dev nD} {α : Type} {Q : α → sProp 𝕄} {h1 h2 h3} {w : Vec F S1x128x512 .f32} {rest : Prog (TpuEff nD τ sig (Elt F) Λ₀ .tc) α}
    (hR : Bufs x wq wo (outSet out b w) kv c ⊢ wp frame (wpE (defs₀ (F := F)) 𝒱₀ (c : Thread nD τ) none) Set.univ rest Q) :
    Bufs x wq wo out kv c ⊢ wp frame (wpE (defs₀ (F := F)) 𝒱₀ (c : Thread nD τ) none) Set.univ (Prog.lift (.load outM (blockR b).toLoadRect h1) >>= fun _ =>
      Prog.lift (.store outM (blockR b) w Finset.univ h2 h3) >>= fun _ => rest) Q := by
  simp only [Prog.lift, Prog.bind_op, Prog.bind_ret]
  unfold Bufs outSet at *
  unfold whole at *
  iintro ⟨Hx, Hwq, Hwo, Hout, Hkv⟩
  iapply (wp_load 𝒱₀ (c : Thread nD τ) none Set.univ (m := outM) (Finset.subset_univ _)) $$ Hout; iintro Hout
  iapply (wp_store 𝒱₀ (c : Thread nD τ) none Set.univ (m := outM) (r := blockR b) (Mk := Finset.univ) (Finset.subset_univ _)) $$ Hout; iintro Hout
  iapply hR
  isplitl [Hx]; · iexact Hx
  isplitl [Hwq]; · iexact Hwq
  isplitl [Hwo]; · iexact Hwo
  isplitl [Hout] <;> iassumption

/-- A part that has come to its end returns its value. -/
theorem wp_out {c : Dev nD} {α : Type} {P : sProp 𝕄} (a : α) : P ⊢ wp frame (wpE (defs₀ (F := F)) 𝒱₀ (c : Thread nD τ) none) Set.univ (Prog.ret a) (fun r => iprop(⌜r = a⌝ ∗ P)) := by
  rw [wp_ret]
  iintro H
  imodintro
  isplitr; · ipureintro; rfl
  iexact H

end Loads

attribute [local irreducible] Idealize.SL.Sem.wp

section Parts

variable (x : (cc0_stg0_0 : Ref sig .tc).ty.Contents (Elt F)) (wq : (cc0_stg1_0 : Ref sig .tc).ty.Contents (Elt F))
  (wo : (cc0_stg4_0 : Ref sig .tc).ty.Contents (Elt F)) (out : (cc0_stg5_0 : Ref sig .tc).ty.Contents (Elt F)) (kv : KVBuf F)

/-- What part 8 returns. -/
def res8 (v180 : IVec S128x2048 32) (v207 : IVec S128x2048 32) (v209 : IVec S128x2048 32) (v223 : IVec S128x2048 1) (v224 : IVec S128x2048 32) :
    Σ' (v232 : IVec S128x2048 1) (v234 : FVec F S512x256 .bf16) (v237 : FVec F S128x256 .f32) (v238 : FVec F S128x512 .f32) (v257 : FVec F S128x2048 .f32), Vec F S16x1x1x128x1x64 .bf16 :=
  ⟨k0_pay9 v180 v207 v209 v223 v224, k0_pay10 wq, k0_pay11 wq (xLd x 0), k0_pay12 (F := F), k0_pay13 v180 v207 v209 v223 v224 wq (xLd x 0) (kvLd kv 0 0 0), (kvLd kv 1 0 0)⟩

/-- The mask, the queries of batch 0, and the weights of its first head. -/
theorem wp_part8 (c : Dev nD) (v180 : IVec S128x2048 32) (v207 : IVec S128x2048 32) (v209 : IVec S128x2048 32) (v223 : IVec S128x2048 1) (v224 : IVec S128x2048 32) :
    Bufs x wq wo out kv c ⊢ wp frame (wpE (defs₀ (F := F)) 𝒱₀ (c : Thread nD τ) none) Set.univ
      (k0_part8 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v180 v207 v209 v223 v224)
      (fun r => iprop(⌜r = res8 x wq kv v180 v207 v209 v223 v224⌝ ∗ Bufs x wq wo out kv c)) := by
  rw [k0_part8_eq_skeleton]
  unfold k0_part8_skel
  refine ld_wq x wq wo out kv ?_
  refine ld_x x wq wo out kv 0 ?_
  refine ld_kv x wq wo out kv 0 0 0 ?_
  refine ld_kv x wq wo out kv 1 0 0 ?_
  exact wp_out _

/-- What part 9 returns. -/
def res9 (v232 : IVec S128x2048 1) (v237 : FVec F S128x256 .f32) (v238 : FVec F S128x512 .f32) (v257 : FVec F S128x2048 .f32) (v258 : Vec F S16x1x1x128x1x64 .bf16) :
    Σ' (v267 : FVec F S128x512 .f32) (v293 : FVec F S64x512 .bf16), FVec F S128x64 .bf16 :=
  ⟨k0_pay14 v238 v257 v258 (woLd wo 0), k0_pay15 (woLd wo 1), k0_pay16 v232 v237 (kvLd kv 0 0 1) (kvLd kv 1 0 1)⟩

/-- Batch 0: the first head's share is added, the second head's context computed. -/
theorem wp_part9 (c : Dev nD) (v232 : IVec S128x2048 1) (v237 : FVec F S128x256 .f32) (v238 : FVec F S128x512 .f32) (v257 : FVec F S128x2048 .f32) (v258 : Vec F S16x1x1x128x1x64 .bf16) :
    Bufs x wq wo out kv c ⊢ wp frame (wpE (defs₀ (F := F)) 𝒱₀ (c : Thread nD τ) none) Set.univ
      (k0_part9 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v237 v238 v257 v258)
      (fun r => iprop(⌜r = res9 wo kv v232 v237 v238 v257 v258⌝ ∗ Bufs x wq wo out kv c)) := by
  rw [k0_part9_eq_skeleton]
  unfold k0_part9_skel
  refine ld_wo x wq wo out kv 0 ?_
  refine ld_kv x wq wo out kv 0 0 1 ?_
  refine ld_kv x wq wo out kv 1 0 1 ?_
  refine ld_wo x wq wo out kv 1 ?_
  exact wp_out _

/-- What part 10 returns. -/
def res10 (v232 : IVec S128x2048 1) (v237 : FVec F S128x256 .f32) (v267 : FVec F S128x512 .f32) (v293 : FVec F S64x512 .bf16) (v294 : FVec F S128x64 .bf16) :
    Σ' (v325 : FVec F S128x512 .f32), FVec F S128x64 .bf16 :=
  ⟨k0_pay17 v232 v237 v267 v293 v294 (kvLd kv 0 0 2) (kvLd kv 1 0 2) (woLd wo 2), k0_pay18 v237⟩

/-- Batch 0: the second and the third head's shares are added. -/
theorem wp_part10 (c : Dev nD) (v232 : IVec S128x2048 1) (v237 : FVec F S128x256 .f32) (v267 : FVec F S128x512 .f32) (v293 : FVec F S64x512 .bf16) (v294 : FVec F S128x64 .bf16) :
    Bufs x wq wo out kv c ⊢ wp frame (wpE (defs₀ (F := F)) 𝒱₀ (c : Thread nD τ) none) Set.univ
      (k0_part10 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v237 v267 v293 v294)
      (fun r => iprop(⌜r = res10 wo kv v232 v237 v267 v293 v294⌝ ∗ Bufs x wq wo out kv c)) := by
  rw [k0_part10_eq_skeleton]
  unfold k0_part10_skel
  refine ld_kv x wq wo out kv 0 0 2 ?_
  refine ld_kv x wq wo out kv 1 0 2 ?_
  refine ld_wo x wq wo out kv 2 ?_
  exact wp_out _

/-- What part 11 returns. -/
def res11 (v232 : IVec S128x2048 1) (v234 : FVec F S512x256 .bf16) (v325 : FVec F S128x512 .f32) (v327 : FVec F S128x64 .bf16) :
    Σ' (v360 : FVec F S128x256 .f32) (v361 : FVec F S128x512 .f32), FVec F S128x64 .f32 :=
  ⟨k0_pay20 v234 (xLd x 1), k0_pay21 (F := F), k0_pay22 v234 (xLd x 1)⟩

/-- The block part 11 stores. -/
def blk11 (v232 : IVec S128x2048 1) (v234 : FVec F S512x256 .bf16) (v325 : FVec F S128x512 .f32) (v327 : FVec F S128x64 .bf16) : Vec F S1x128x512 .f32 := k0_pay19 v232 v325 v327 (kvLd kv 0 0 3) (kvLd kv 1 0 3) (woLd wo 3)

/-- Batch 0: the fourth head's share is added and the block stored; the queries of batch 1. -/
theorem wp_part11 (c : Dev nD) (v232 : IVec S128x2048 1) (v234 : FVec F S512x256 .bf16) (v325 : FVec F S128x512 .f32) (v327 : FVec F S128x64 .bf16) :
    Bufs x wq wo out kv c ⊢ wp frame (wpE (defs₀ (F := F)) 𝒱₀ (c : Thread nD τ) none) Set.univ
      (k0_part11 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v234 v325 v327)
      (fun r => iprop(⌜r = res11 x v232 v234 v325 v327⌝ ∗ Bufs x wq wo (outSet out 0 (blk11 wo kv v232 v234 v325 v327)) kv c)) := by
  rw [k0_part11_eq_skeleton]
  unfold k0_part11_skel
  refine ld_kv x wq wo out kv 0 0 3 ?_
  refine ld_kv x wq wo out kv 1 0 3 ?_
  refine ld_wo x wq wo out kv 3 ?_
  refine st_out x wq wo out kv 0 ?_
  refine ld_x x wq wo (outSet out 0 (blk11 wo kv v232 v234 v325 v327)) kv 1 ?_
  exact wp_out _

/-- What part 12 returns. -/
def res12 (v232 : IVec S128x2048 1) (v360 : FVec F S128x256 .f32) (v361 : FVec F S128x512 .f32) (v362 : FVec F S128x64 .f32) :
    Σ' (v390 : FVec F S128x512 .f32) (v392 : FVec F S128x64 .bf16), FVec F S2048x64 .bf16 :=
  ⟨k0_pay23 v232 v361 v362 (kvLd kv 0 1 0) (kvLd kv 1 1 0) (woLd wo 0), k0_pay24 v360, k0_pay25 (kvLd kv 0 1 1)⟩

/-- Batch 1: the first head's share is added. -/
theorem wp_part12 (c : Dev nD) (v232 : IVec S128x2048 1) (v360 : FVec F S128x256 .f32) (v361 : FVec F S128x512 .f32) (v362 : FVec F S128x64 .f32) :
    Bufs x wq wo out kv c ⊢ wp frame (wpE (defs₀ (F := F)) 𝒱₀ (c : Thread nD τ) none) Set.univ
      (k0_part12 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v360 v361 v362)
      (fun r => iprop(⌜r = res12 wo kv v232 v360 v361 v362⌝ ∗ Bufs x wq wo out kv c)) := by
  rw [k0_part12_eq_skeleton]
  unfold k0_part12_skel
  refine ld_kv x wq wo out kv 0 1 0 ?_
  refine ld_kv x wq wo out kv 1 1 0 ?_
  refine ld_wo x wq wo out kv 0 ?_
  refine ld_kv x wq wo out kv 0 1 1 ?_
  exact wp_out _

/-- What part 13 returns. -/
def res13 (v232 : IVec S128x2048 1) (v360 : FVec F S128x256 .f32) (v390 : FVec F S128x512 .f32) (v392 : FVec F S128x64 .bf16) (v395 : FVec F S2048x64 .bf16) :
    Σ' (v419 : FVec F S128x512 .f32) (v429 : FVec F S128x2048 .f32), FVec F S128 .f32 :=
  ⟨k0_pay26 v232 v390 v392 v395 (kvLd kv 1 1 1) (woLd wo 1), k0_pay27 v232 v360 (kvLd kv 0 1 2), k0_pay28 v232 v360 (kvLd kv 0 1 2)⟩

/-- Batch 1: the second head's share is added, the third head's weights are begun. -/
theorem wp_part13 (c : Dev nD) (v232 : IVec S128x2048 1) (v360 : FVec F S128x256 .f32) (v390 : FVec F S128x512 .f32) (v392 : FVec F S128x64 .bf16) (v395 : FVec F S2048x64 .bf16) :
    Bufs x wq wo out kv c ⊢ wp frame (wpE (defs₀ (F := F)) 𝒱₀ (c : Thread nD τ) none) Set.univ
      (k0_part13 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v360 v390 v392 v395)
      (fun r => iprop(⌜r = res13 wo kv v232 v360 v390 v392 v395⌝ ∗ Bufs x wq wo out kv c)) := by
  rw [k0_part13_eq_skeleton]
  unfold k0_part13_skel
  refine ld_kv x wq wo out kv 1 1 1 ?_
  refine ld_wo x wq wo out kv 1 ?_
  refine ld_kv x wq wo out kv 0 1 2 ?_
  exact wp_out _

/-- What part 14 returns. -/
def res14 (v232 : IVec S128x2048 1) (v360 : FVec F S128x256 .f32) (v419 : FVec F S128x512 .f32) (v429 : FVec F S128x2048 .f32) (v430 : FVec F S128 .f32) :
    Σ' (v448 : FVec F S128x512 .f32), FVec F S128x2048 .f32 :=
  ⟨k0_pay29 v419 v429 v430 (kvLd kv 1 1 2) (woLd wo 2), k0_pay30 v232 v360 (kvLd kv 0 1 3)⟩

/-- Batch 1: the third head's share is added, the fourth head's weights computed. -/
theorem wp_part14 (c : Dev nD) (v232 : IVec S128x2048 1) (v360 : FVec F S128x256 .f32) (v419 : FVec F S128x512 .f32) (v429 : FVec F S128x2048 .f32) (v430 : FVec F S128 .f32) :
    Bufs x wq wo out kv c ⊢ wp frame (wpE (defs₀ (F := F)) 𝒱₀ (c : Thread nD τ) none) Set.univ
      (k0_part14 (F := F) xM (Memref.isWhole_whole _) wqM (Memref.isWhole_whole _) keyM (Memref.isWhole_whole _) valM (Memref.isWhole_whole _)
        woM (Memref.isWhole_whole _) outM (Memref.isWhole_whole _) kvM (Memref.isWhole_whole _) cc0_scratch1 cc0_scratch2 cc0_scoped0 v232 v360 v419 v429 v430)
      (fun r => iprop(⌜r = res14 wo kv v232 v360 v419 v429 v430⌝ ∗ Bufs x wq wo out kv c)) := by
  rw [k0_part14_eq_skeleton]
  unfold k0_part14_skel
  refine ld_kv x wq wo out kv 1 1 2 ?_
  refine ld_wo x wq wo out kv 2 ?_
  refine ld_kv x wq wo out kv 0 1 3 ?_
  exact wp_out _

end Parts

end Cert.KernelIdealProof

end
-- ==== Proof.Body.lean ====
/-
# The kernel's body on one device

The parts one after the other, the store of the second batch of the result, and the closing barrier.
-/
module

public import proofs.«01_k».proof.Proof.Compute

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CIx → ℕ)

/-! ## The result -/

/-- The three other staged arguments of device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The query matrix as staged. -/
def wqstg (c : Dev nD) : (cc0_stg1_0 : Ref sig .tc).ty.Contents (Elt F) :=
  (win0_1.blk (0 : Fin 1)).view.read (Elt F) ((s₀ m ρ).mem ((c : Thread nD τ).loc main_arg1))
/-- The output matrix as staged. -/
def wostg (c : Dev nD) : (cc0_stg4_0 : Ref sig .tc).ty.Contents (Elt F) :=
  (win0_4.blk (0 : Fin 1)).view.read (Elt F) ((s₀ m ρ).mem ((c : Thread nD τ).loc main_arg4))

/-- The column numbers and the mask of the scores on device `c`. -/
abbrev colsV : IVec S128x2048 32 := iota .tc S128x2048 32 [1] iota_S128x2048_d1_w32
/-- The mask of the scores on device `c`. -/
def maskV (c : Dev nD) : IVec S128x2048 1 := k0_pay9 colsV (k0_pay5 (posW c)) k0_pay6 k0_pay7 k0_pay8

section Result
variable (x : (cc0_stg0_0 : Ref sig .tc).ty.Contents (Elt F)) (wq : (cc0_stg1_0 : Ref sig .tc).ty.Contents (Elt F))
  (wo : (cc0_stg4_0 : Ref sig .tc).ty.Contents (Elt F)) (kv : KVBuf F) (c : Dev nD)

/-- The sums over the heads done so far, batch 0: after one, two, three heads, and the block. -/
def acc01 : FVec F S128x512 .f32 :=
  k0_pay14 (k0_pay12 (F := F)) (k0_pay13 colsV (k0_pay5 (posW c)) k0_pay6 k0_pay7 k0_pay8 wq (xLd x 0) (kvLd kv 0 0 0)) (kvLd kv 1 0 0) (woLd wo 0)
/-- The sum after three heads, batch 0. -/
def acc03 : FVec F S128x512 .f32 :=
  k0_pay17 (maskV c) (k0_pay11 wq (xLd x 0)) (acc01 x wq wo kv c) (k0_pay15 (woLd wo 1))
    (k0_pay16 (maskV c) (k0_pay11 wq (xLd x 0)) (kvLd kv 0 0 1) (kvLd kv 1 0 1)) (kvLd kv 0 0 2) (kvLd kv 1 0 2) (woLd wo 2)
/-- The block of batch 0, after all four heads. -/
def blk0 : Vec F S1x128x512 .f32 :=
  k0_pay19 (maskV c) (acc03 x wq wo kv c) (k0_pay18 (k0_pay11 wq (xLd x 0))) (kvLd kv 0 0 3) (kvLd kv 1 0 3) (woLd wo 3)
/-- The same of batch 1. -/
def acc11 : FVec F S128x512 .f32 :=
  k0_pay23 (maskV c) (k0_pay21 (F := F)) (k0_pay22 (k0_pay10 wq) (xLd x 1)) (kvLd kv 0 1 0) (kvLd kv 1 1 0) (woLd wo 0)
/-- The sum after two heads, batch 1. -/
def acc12 : FVec F S128x512 .f32 :=
  k0_pay26 (maskV c) (acc11 x wq wo kv c) (k0_pay24 (k0_pay20 (k0_pay10 wq) (xLd x 1))) (k0_pay25 (kvLd kv 0 1 1)) (kvLd kv 1 1 1) (woLd wo 1)
/-- The sum after three heads, batch 1. -/
def acc13 : FVec F S128x512 .f32 :=
  k0_pay29 (acc12 x wq wo kv c) (k0_pay27 (maskV c) (k0_pay20 (k0_pay10 wq) (xLd x 1)) (kvLd kv 0 1 2))
    (k0_pay28 (maskV c) (k0_pay20 (k0_pay10 wq) (xLd x 1)) (kvLd kv 0 1 2)) (kvLd kv 1 1 2) (woLd wo 2)
/-- The block of batch 1, after all four heads. -/
def blk1 : Vec F S1x128x512 .f32 :=
  k0_pay1 (acc13 x wq wo kv c) (k0_pay30 (maskV c) (k0_pay20 (k0_pay10 wq) (xLd x 1)) (kvLd kv 0 1 3)) (kvLd kv 1 1 3) (woLd wo 3)

/-- The place of an element within its batch. -/
def inBlock (i : S2x128x512.Idx) : S1x128x512.Idx := fun a => match a with
  | ⟨0, _⟩ => ⟨0, Nat.one_pos⟩
  | ⟨1, _⟩ => ⟨(i 1).val, (i 1).isLt⟩
  | ⟨2, _⟩ => ⟨(i 2).val, (i 2).isLt⟩

/-- Both batches side by side. -/
def outOf (w0 w1 : Vec F S1x128x512 .f32) : (cc0_stg5_0 : Ref sig .tc).ty.Contents (Elt F) :=
  fun i => if (i 0).val = 0 then w0 (inBlock i) else w1 (inBlock i)

/-- The place of an element within its batch, put back into the result's array, is the element. -/
theorem emb_block (b : Fin 2) (i : S2x128x512.Idx) (h : (i 0).val = b.val) : (outM.access (blockR b)).emb (inBlock i) = i := by
  show (blockR b).emb (inBlock i) = i
  funext a
  apply Fin.ext
  rw [Rect.emb_apply]
  fin_cases a
  · show b.val + 1 * 0 = (i 0).val; omega
  · show 0 + 1 * (i 1).val = (i 1).val; omega
  · show 0 + 1 * (i 2).val = (i 2).val; omega

/-- An element of another batch lies outside the block that is stored. -/
theorem not_block (b : Fin 2) (i : S2x128x512.Idx) (h : (i 0).val ≠ b.val) : i ∉ (outM.access (blockR b)).setOn Finset.univ := by
  intro hi
  have hs : i ∈ (outM.access (blockR b)).set := hi
  rw [show (outM.access (blockR b)).set = (blockR b).set from View.set_slice_whole _ _] at hs
  have h0 := (Rect.mem_set_unit.mp hs) 0
  have : b.val ≤ (i 0).val ∧ (i 0).val < b.val + 1 := h0
  omega

/-- A stored block shows at the elements of its batch and leaves the others. -/
theorem outSet_of (out : (cc0_stg5_0 : Ref sig .tc).ty.Contents (Elt F)) (b : Fin 2) (w : Vec F S1x128x512 .f32) (i : S2x128x512.Idx) :
    outSet out b w i = if (i 0).val = b.val then w (inBlock i) else out i := by
  unfold outSet
  split
  · rename_i h
    have hw := View.write_emb (Val := Elt F) (v := outM.access (blockR b)) out w Finset.univ (inBlock i)
    rw [emb_block b i h, if_pos (Finset.mem_univ _)] at hw
    exact hw
  · rename_i h
    exact View.write_of_not_mem _ _ _ (not_block b i h)

/-- The two stores fill the result, whatever it held. -/
theorem outSet_both (out : (cc0_stg5_0 : Ref sig .tc).ty.Contents (Elt F)) (w0 w1 : Vec F S1x128x512 .f32) :
    outSet (outSet out 0 w0) 1 w1 = outOf w0 w1 := by
  funext i
  rw [outSet_of, outSet_of]
  unfold outOf
  have h2 : (i 0).val < 2 := (i 0).isLt
  show (if (i 0).val = 1 then _ else if (i 0).val = 0 then _ else _) = _
  by_cases h : (i 0).val = 0
  · rw [if_neg (by omega), if_pos h, if_pos h]
  · rw [if_pos (by omega), if_neg h]

end Result

/-- What the kernel computes on device `c`. -/
def outAt (c : Dev nD) : (cc0_stg5_0 : Ref sig .tc).ty.Contents (Elt F) :=
  outOf (blk0 (xstg m ρ c) (wqstg m ρ c) (wostg m ρ c) (kvFin m ρ c) c) (blk1 (xstg m ρ c) (wqstg m ρ c) (wostg m ρ c) (kvFin m ρ c) c)

/-! ## The closing barrier -/

/-- What device `c` closes with. -/
def Close (c : Dev nD) : sProp 𝕄 :=
  iprop(dutyTok ER (kcell (prv c) bar2K) 0 true ∗ dutyTok ER (kcell (nxt c) bar2K) 0 false
    ∗ atPos ER (kcell c bar2K) 0 ∅ 0 ∗ cred (tallyAt (kcell c bar2K) () 2))

/-- The first signal of the closing barrier goes to the device before. -/
theorem dev_prv2 (c : Dev nD) : (⟨k0_dev18 c, k0_dev18_lt c⟩ : Dev nD) = prv c := Fin.ext ((by decide +kernel : ∀ c : Dev nD, k0_dev18 c = (prv c).val) c)
/-- The second signal of the closing barrier goes to the device after. -/
theorem dev_nxt2 (c : Dev nD) : (⟨k0_dev19 c, k0_dev19_lt c⟩ : Dev nD) = nxt c := Fin.ext ((by decide +kernel : ∀ c : Dev nD, k0_dev19 c = (nxt c).val) c)

/-- Both neighbours signalled, two signals awaited: nothing is owed any more and the semaphore is back at zero. -/
theorem wp_closing (c : Dev nD) :
    iprop(records m ρ K ∗ levAts L lv ∗ owing c (OB c) ∗ Close c) ⊢ wp frame (wpE (defs₀ (F := F)) 𝒱₀ (c : Thread nD τ) none) Set.univ
      (semSignalWord (⟨k0_dev18 c, k0_dev18_lt c⟩ : Dev nD) cc0_scoped0.sem 1#32 >>= fun _ =>
        semSignalWord (⟨k0_dev19 c, k0_dev19_lt c⟩ : Dev nD) cc0_scoped0.sem 1#32 >>= fun _ =>
        semWaitWord cc0_scoped0.sem 2#32 >>= fun _ => pure ⟨⟩)
      (fun _ : PUnit => iprop(owing c 0 ∗ semVal (kcell c bar2K) 0)) := by
  simp only [semSignalWord, semWaitWord, Prog.lift, Prog.bind_op, Prog.bind_ret, Prog.pure_eq_ret]
  simp only [dev_prv2 c, dev_nxt2 c]
  unfold Close owing
  iintro ⟨#HR, #Hlev, ⟨%W, HO⟩, HtP, HtN, Hat, Hc⟩
  iapply (Rounds.wp_signal 𝒱₀ ER (ringRd m ρ) (c : Thread nD τ) none (dst := (prv c : Thread nD τ)) (κ := K (prv c, bar2K))
      (d := true) (by rw [show ((prv c : Thread nD τ), SemLoc.reg bar2S) = kcell (prv c) bar2K from rfl, duties_k]; exact Finset.mem_univ _)
      ((amount_k m ρ (prv c) bar2K true).trans (by decide)) () (tallyAt (kcell (nxt c) bar2K) () 1) rfl) $$ [HO HtP]
  · isplitr; · iapply (inv_at m ρ K (prv c) bar2K); iexact HR
    isplitl [HO]; · iexact HO
    isplitl [HtP]; · iexact HtP
    isplitr
    · rw [show ((prv c : Thread nD τ), SemLoc.reg bar2S) = kcell (prv c) bar2K from rfl, payload_k,
        show (payK m ρ (prv c) (.inl true) true : sProp 𝕄) = iprop(emp) from rfl]
      iempintro
    · iapply (reached_at m ρ K (prv c) bar2K); iexact HR
  iintro HO
  iapply (Rounds.wp_signal 𝒱₀ ER (ringRd m ρ) (c : Thread nD τ) none (dst := (nxt c : Thread nD τ)) (κ := K (nxt c, bar2K))
      (d := false) (by rw [show ((nxt c : Thread nD τ), SemLoc.reg bar2S) = kcell (nxt c) bar2K from rfl, duties_k]; exact Finset.mem_univ _)
      ((amount_k m ρ (nxt c) bar2K false).trans (by decide)) () 0 (zero_add _).symm) $$ [HO HtN]
  · isplitr; · iapply (inv_at m ρ K (nxt c) bar2K); iexact HR
    isplitl [HO]; · iexact HO
    isplitl [HtN]; · iexact HtN
    isplitr
    · rw [show ((nxt c : Thread nD τ), SemLoc.reg bar2S) = kcell (nxt c) bar2K from rfl, payload_k,
        show (payK m ρ (nxt c) (.inl true) false : sProp 𝕄) = iprop(emp) from rfl]
      iempintro
    · iapply (reached_at m ρ K (nxt c) bar2K); iexact HR
  iintro HO
  iapply (Rounds.wp_wait_rest_token 𝒱₀ ER (ringRd m ρ) (c : Thread nD τ) none (κ := K (c, bar2K))
      (wpE_semWait_eq 𝒱₀ (c : Thread nD τ) none Set.univ) (Set.mem_univ _) () (O := 0) (W := W) (R := 0) (m := 0) (T := ∅)
      (by rw [show ((c : Thread nD τ), SemLoc.reg bar2S) = kcell c bar2K from rfl, expect_barrier]; decide)) $$ [Hc HO Hat]
  · isplitr; · iapply (inv_at m ρ K c bar2K); iexact HR
    isplitl [Hc]; · iexact Hc
    isplitl [HO]; · iexact HO
    isplitr; · rw [MayWait_zero]; iempintro
    iexact Hat
  iintro ⟨HO, Hat, -, Hpay⟩
  imod (Rounds.cell_close ER (ringRd m ρ) (Set.mem_univ (K (c, bar2K))) (fun h => h) (R := 0 + 1) (duties_later m ρ (kcell c bar2K))) $$ [Hat] with Hz
  · isplitr; · iapply (inv_at m ρ K c bar2K); iexact HR
    iexact Hat
  rw [wp_ret]; imodintro
  isplitl [HO]; · iexists _; iexact HO
  iexact Hz

/-! ## The buffer after the exchange -/

/-- The slots up to the own one filled, the later ones zero: the whole buffer as `kvFin` says. -/
theorem kv_joined (c : Dev nD) : iprop(kvPts c (ownSet c 15) (kvAll m ρ) ∗ kvPts c (highSet c) kv0) ⊢ kvPts c Finset.univ (kvFin m ρ c) := by
  have hu : (Finset.univ : Finset S16x2x2x128x4x64.Idx) = ownSet c 15 ∪ highSet c := by
    ext i; rw [Finset.mem_union, mem_ownSet, mem_highSet]
    have := lt16 c
    simp only [Finset.mem_univ, true_iff]; omega
  have hd : Disjoint (ownSet c 15) (highSet c) := Finset.disjoint_left.mpr fun i h1 h2 => by
    rw [mem_ownSet] at h1; rw [mem_highSet] at h2; omega
  have h1 : (kvPts c (ownSet c 15) (kvAll m ρ) : sProp 𝕄) = kvPts c (ownSet c 15) (kvFin m ρ c) :=
    kvPts_congr fun i hi => by rw [mem_ownSet] at hi; exact (if_pos hi.2).symm
  have h2 : (kvPts c (highSet c) kv0 : sProp 𝕄) = kvPts c (highSet c) (kvFin m ρ c) :=
    kvPts_congr fun i hi => by rw [mem_highSet] at hi; exact (if_neg (by omega)).symm
  rw [hu, h1, h2]
  exact (kvPts_union hd _).2

/-! ## One part after another -/

/-- A part, something kept aside, then the rest. -/
theorem wp_then {c : Dev nD} {α β : Type} {P X : sProp 𝕄} {R : α → sProp 𝕄} {Q : β → sProp 𝕄}
    {p : Prog (TpuEff nD τ sig (Elt F) Λ₀ .tc) α} {k : α → Prog (TpuEff nD τ sig (Elt F) Λ₀ .tc) β}
    (hp : P ⊢ wp frame (wpE (defs₀ (F := F)) 𝒱₀ (c : Thread nD τ) none) Set.univ p R)
    (hk : ∀ a, iprop(R a ∗ X) ⊢ wp frame (wpE (defs₀ (F := F)) 𝒱₀ (c : Thread nD τ) none) Set.univ (k a) Q) :
    iprop(P ∗ X) ⊢ wp frame (wpE (defs₀ (F := F)) 𝒱₀ (c : Thread nD τ) none) Set.univ (p >>= k) Q := by
  rw [wp_bind]
  exact ((Idealize.SL.BI.sep_mono hp (BI.Entails.refl _)).trans (wp_frame_r _ _ _)).trans (wp_mono _ _ _ hk)

/-- The same when the part says what it returns. -/
theorem wp_then_val {c : Dev nD} {α β : Type} {P X R : sProp 𝕄} {Q : β → sProp 𝕄} {φ : α → Prop}
    {p : Prog (TpuEff nD τ sig (Elt F) Λ₀ .tc) α} {k : α → Prog (TpuEff nD τ sig (Elt F) Λ₀ .tc) β}
    (hp : P ⊢ wp frame (wpE (defs₀ (F := F)) 𝒱₀ (c : Thread nD τ) none) Set.univ p (fun r => iprop(⌜φ r⌝ ∗ R)))
    (hk : ∀ a, φ a → (iprop(R ∗ X) ⊢ wp frame (wpE (defs₀ (F := F)) 𝒱₀ (c : Thread nD τ) none) Set.univ (k a) Q)) :
    iprop(P ∗ X) ⊢ wp frame (wpE (defs₀ (F := F)) 𝒱₀ (c : Thread nD τ) none) Set.univ (p >>= k) Q := by
  refine wp_then hp fun a => ?_
  iintro ⟨⟨%h, HR⟩, HX⟩
  iapply (hk a h)
  isplitl [HR] <;> iassumption

/-- A regrouping first. -/
theorem wp_from {c : Dev nD} {α : Type} {P P' : sProp 𝕄} {Q : α → sProp 𝕄} {p : Prog (TpuEff nD τ sig (Elt F) Λ₀ .tc) α}
    (h : P ⊢ P') (hp : P' ⊢ wp frame (wpE (defs₀ (F := F)) 𝒱₀ (c : Thread nD τ) none) Set.univ p Q) :
    P ⊢ wp frame (wpE (defs₀ (F := F)) 𝒱₀ (c : Thread nD τ) none) Set.univ p Q := h.trans hp

/-- The separating conjunction is associative. -/
theorem sep_reassoc (P Q R : sProp 𝕄) : iprop((P ∗ Q) ∗ R) ⊢ iprop(P ∗ Q ∗ R) := by
  iintro ⟨⟨HP, HQ⟩, HR⟩
  isplitl [HP]; · iexact HP
  isplitl [HQ] <;> iassumption

attribute [local irreducible] Idealize.SL.Sem.wp

/-- The buffers that the computation reads and writes, the output at anything. -/
def Args (c : Dev nD) (out : (cc0_stg5_0 : Ref sig .tc).ty.Contents (Elt F)) : sProp 𝕄 :=
  iprop(whole c cc0_stg0_0 (xstg m ρ c) ∗ whole c cc0_stg1_0 (wqstg m ρ c) ∗ whole c cc0_stg4_0 (wostg m ρ c) ∗ whole c cc0_stg5_0 out)

/-- What the first two parts do not touch. -/
def Kept (c : Dev nD) (out : (cc0_stg5_0 : Ref sig .tc).ty.Contents (Elt F)) : sProp 𝕄 :=
  iprop(kvPts c (highSet c) kv0 ∗ semVal (kcell c barK) 0 ∗ whole c cc0_stg2_0 (kstg m ρ c) ∗ Args m ρ c out ∗ Close c)

/-- What is left at the end. -/
def Left (c : Dev nD) : sProp 𝕄 :=
  iprop(kvPts c Finset.univ (kvFin m ρ c) ∗ owing c 0 ∗ doneTo c 15 ∗ semVal (kcell c barK) 0 ∗ semVal (kcell c bar2K) 0
    ∗ whole c cc0_stg2_0 (kstg m ρ c) ∗ whole c cc0_stg3_0 (vstg m ρ c) ∗ Args m ρ c (outAt m ρ c))

/-- After the first barrier: what the ring's steps take, and what is set aside for them. -/
theorem after_ready (c : Dev nD) (out) :
    iprop(Ready m ρ K c ∗ restFrom c 0 ∗ whole c cc0_stg3_0 (vstg m ρ c) ∗ Args m ρ c out ∗ Close c)
      ⊢ iprop((records m ρ K ∗ levAts L lv ∗ kvPts c (ownSet c 0) (kv1 m ρ c) ∗ lowPts c 0 ∗ owing c (Ox c 0) ∗ restFrom c 0 ∗ whole c cc0_stg3_0 (vstg m ρ c))
        ∗ Kept m ρ c out) := by
  unfold Ready Kept
  iintro ⟨⟨#HR, #Hlev, Hown, Hhigh, Hlow, HO, Hz, Hkey⟩, Hrest, Hval, Hargs, Hcl⟩
  isplitl [Hown Hlow HO Hrest Hval]
  · isplitr; · iexact HR
    isplitr; · iexact Hlev
    isplitl [Hown]; · iexact Hown
    isplitl [Hlow]; · iexact Hlow
    isplitl [HO]; · iexact HO
    isplitl [Hrest] <;> iassumption
  isplitl [Hhigh]; · iexact Hhigh
  isplitl [Hz]; · iexact Hz
  isplitl [Hkey]; · iexact Hkey
  isplitl [Hargs] <;> iassumption

/-- What stays aside during the computation. -/
def Aside (c : Dev nD) : sProp 𝕄 :=
  iprop((records m ρ K ∗ levAts L lv ∗ owing c (OB c) ∗ Close c) ∗ doneTo c 15 ∗ semVal (kcell c barK) 0
    ∗ whole c cc0_stg2_0 (kstg m ρ c) ∗ whole c cc0_stg3_0 (vstg m ρ c))

/-- After the fifteen steps the whole buffer is held, filled up to the device's own slot and zero after it. -/
theorem after_exchange (c : Dev nD) (out) :
    iprop(St m ρ K c 15 ∗ whole c cc0_stg3_0 (vstg m ρ c) ∗ Kept m ρ c out)
      ⊢ iprop(Bufs (xstg m ρ c) (wqstg m ρ c) (wostg m ρ c) out (kvFin m ρ c) c ∗ Aside m ρ K c) := by
  unfold St Kept Args Bufs Aside
  rw [Ox_end]
  iintro ⟨⟨#HR, #Hlev, Hown, -, HO, -, Hdone⟩, Hval, Hhigh, Hz, Hkey, ⟨Hx, Hwq, Hwo, Hout⟩, Hcl⟩
  ihave Hkv := (kv_joined m ρ c) $$ [Hown Hhigh]
  · isplitl [Hown] <;> iassumption
  isplitl [Hx Hwq Hwo Hout Hkv]
  · isplitl [Hx]; · iexact Hx
    isplitl [Hwq]; · iexact Hwq
    isplitl [Hwo]; · iexact Hwo
    isplitl [Hout] <;> iassumption
  isplitl [HO Hcl]
  · isplitr; · iexact HR
    isplitr; · iexact Hlev
    isplitl [HO] <;> iassumption
  isplitl [Hdone]; · iexact Hdone
  isplitl [Hz]; · iexact Hz
  isplitl [Hkey] <;> iassumption

/-- After the closing barrier the device holds what it must leave. -/
theorem at_end (c : Dev nD) (out) (hout : out = outAt m ρ c) :
    iprop((owing c 0 ∗ semVal (kcell c bar2K) 0) ∗ (Bufs (xstg m ρ c) (wqstg m ρ c) (wostg m ρ c) out (kvFin m ρ c) c
        ∗ doneTo c 15 ∗ semVal (kcell c barK) 0 ∗ whole c cc0_stg2_0 (kstg m ρ c) ∗ whole c cc0_stg3_0 (vstg m ρ c)))
      ⊢ Left m ρ c := by
  subst hout
  unfold Bufs Left Args
  iintro ⟨⟨HO, Hz2⟩, ⟨Hx, Hwq, Hwo, Hout, Hkv⟩, Hdone, Hz, Hkey, Hval⟩
  isplitl [Hkv]; · iexact Hkv
  isplitl [HO]; · iexact HO
  isplitl [Hdone]; · iexact Hdone
  isplitl [Hz]; · iexact Hz
  isplitl [Hz2]; · iexact Hz2
  isplitl [Hkey]; · iexact Hkey
  isplitl [Hval]; · iexact Hval
  isplitl [Hx]; · iexact Hx
  isplitl [Hwq]; · iexact Hwq
  isplitl [Hwo] <;> iassumption

/-- What the closing barrier takes, and what is set aside for it. -/
theorem before_closing (c : Dev nD) (out) :
    iprop(Bufs (xstg m ρ c) (wqstg m ρ c) (wostg m ρ c) out (kvFin m ρ c) c ∗ Aside m ρ K c)
      ⊢ iprop((records m ρ K ∗ levAts L lv ∗ owing c (OB c) ∗ Close c) ∗ (Bufs (xstg m ρ c) (wqstg m ρ c) (wostg m ρ c) out (kvFin m ρ c) c
        ∗ doneTo c 15 ∗ semVal (kcell c barK) 0 ∗ whole c cc0_stg2_0 (kstg m ρ c) ∗ whole c cc0_stg3_0 (vstg m ρ c))) := by
  unfold Aside
  iintro ⟨HB, HC, HR⟩
  isplitl [HC]; · iexact HC
  isplitl [HB] <;> iassumption

/-- The last loads and the last store. -/
theorem wp_tail {c : Dev nD} {β : Type} {h1 h2 h3 h4 h5} (x wq wo out kv) (v448 : FVec F S128x512 .f32) (v467 : FVec F S128x2048 .f32)
    {rest : Prog (TpuEff nD τ sig (Elt F) Λ₀ .tc) β} {Q : β → sProp 𝕄} {X : sProp 𝕄}
    (h : iprop(Bufs x wq wo (outSet out 1 (k0_pay1 v448 v467 (kvLd kv 1 1 3) (woLd wo 3))) kv c ∗ X)
      ⊢ wp frame (wpE (defs₀ (F := F)) 𝒱₀ (c : Thread nD τ) none) Set.univ rest Q) :
    iprop(Bufs x wq wo out kv c ∗ X) ⊢ wp frame (wpE (defs₀ (F := F)) 𝒱₀ (c : Thread nD τ) none) Set.univ
      (Prog.lift (.load kvM (headR 1 1 3).toLoadRect h1) >>= fun v468 =>
        Prog.lift (.load woM (rowsR 3).toLoadRect h2) >>= fun v473 =>
        Prog.lift (.load outM (blockR 1).toLoadRect h3) >>= fun _ =>
        Prog.lift (.store outM (blockR 1) (k0_pay1 v448 v467 v468 v473) Finset.univ h4 h5) >>= fun _ => rest) Q := by
  have hw : iprop(Bufs x wq wo out kv c) ⊢ wp frame (wpE (defs₀ (F := F)) 𝒱₀ (c : Thread nD τ) none) Set.univ
      (Prog.lift (.load kvM (headR 1 1 3).toLoadRect h1) >>= fun v468 =>
        Prog.lift (.load woM (rowsR 3).toLoadRect h2) >>= fun v473 =>
        Prog.lift (.load outM (blockR 1).toLoadRect h3) >>= fun _ =>
        Prog.lift (.store outM (blockR 1) (k0_pay1 v448 v467 v468 v473) Finset.univ h4 h5) >>= fun _ => Prog.ret PUnit.unit)
      (fun _ => Bufs x wq wo (outSet out 1 (k0_pay1 v448 v467 (kvLd kv 1 1 3) (woLd wo 3))) kv c) := by
    refine ld_kv x wq wo out kv 1 1 3 ?_
    refine ld_wo x wq wo out kv 3 ?_
    refine st_out x wq wo out kv 1 ?_
    exact wp_done _ _
  have ht := wp_then (X := X) hw (k := fun _ => rest) (Q := Q) fun _ => h
  simpa only [Prog.lift, Prog.bind_op, Prog.bind_ret] using ht

/-- The body, part after part. -/
theorem wp_body (c : Dev nD) (out : (cc0_stg5_0 : Ref sig .tc).ty.Contents (Elt F)) :
    iprop(Pre m ρ K c ∗ restFrom c 0 ∗ whole c cc0_stg3_0 (vstg m ρ c) ∗ Args m ρ c out ∗ Close c)
      ⊢ wp frame (wpE (defs₀ (F := F)) 𝒱₀ (c : Thread nD τ) none) Set.univ
        (cc0_body (F := F) xM (Memref.isWhole_whole _) wqM (Memref.isWhole_whole _) keyM (Memref.isWhole_whole _) valM (Memref.isWhole_whole _)
          woM (Memref.isWhole_whole _) outM (Memref.isWhole_whole _) kvM (Memref.isWhole_whole _) cc0_scratch1 cc0_scratch2 cc0_scoped0)
        (fun _ => Left m ρ c) := by
  rw [cc0_body_eq_skeleton]
  unfold cc0_body_skel
  refine wp_then_val (wp_part1 m ρ K c) ?_
  rintro ⟨d0, v2, v5, v7⟩ ⟨hd, hv⟩
  dsimp only at hd hv
  subst hd hv
  refine wp_from (after_ready m ρ K d0 out) ?_
  refine wp_then (wp_part2 m ρ K d0 (posW d0)) ?_
  rintro ⟨v50, v51⟩
  refine wp_from (sep_reassoc _ _ _) ?_
  refine wp_then (wp_part3 m ρ K d0 (posW d0) v50 v51) ?_
  rintro ⟨v82, v83⟩
  refine wp_then (wp_part4 m ρ K d0 (posW d0) v82 v83) ?_
  rintro ⟨v114, v115⟩
  refine wp_then (wp_part5 m ρ K d0 (posW d0) v114 v115) ?_
  intro v144
  refine wp_then (wp_part6 m ρ K d0 (posW d0) v144) ?_
  intro _
  refine wp_then_val (wp_part7 m ρ K d0 (posW d0)) ?_
  rintro ⟨v180, v207, v209, v223, v224⟩ h7
  cases h7
  refine wp_from (after_exchange m ρ K d0 out) ?_
  refine wp_then_val (wp_part8 _ _ _ _ _ d0 _ _ _ _ _) ?_
  rintro ⟨v232, v234, v237, v238, v257, v258⟩ h8
  cases h8
  refine wp_then_val (wp_part9 _ _ _ _ _ d0 _ _ _ _ _) ?_
  rintro ⟨v267, v293, v294⟩ h9
  cases h9
  refine wp_then_val (wp_part10 _ _ _ _ _ d0 _ _ _ _ _) ?_
  rintro ⟨v325, v327⟩ h10
  cases h10
  refine wp_then_val (wp_part11 _ _ _ _ _ d0 _ _ _ _) ?_
  rintro ⟨v360, v361, v362⟩ h11
  cases h11
  refine wp_then_val (wp_part12 _ _ _ _ _ d0 _ _ _ _) ?_
  rintro ⟨v390, v392, v395⟩ h12
  cases h12
  refine wp_then_val (wp_part13 _ _ _ _ _ d0 _ _ _ _ _) ?_
  rintro ⟨v419, v429, v430⟩ h13
  cases h13
  refine wp_then_val (wp_part14 _ _ _ _ _ d0 _ _ _ _ _) ?_
  rintro ⟨v448, v467⟩ h14
  cases h14
  refine wp_tail _ _ _ _ _ _ _ ?_
  refine wp_from (before_closing m ρ K d0 _) ?_
  refine BI.Entails.trans (wp_aside (wp_closing m ρ K d0)) (wp_mono _ _ _ fun _ => ?_)
  refine at_end m ρ d0 _ ?_
  rw [outSet_both]
  rfl

/-! ## The pipeline's proof data -/

/-- What the body starts from: the records, the levels, and device `c`'s part of the ring. -/
def start (c : Dev nD) : sProp 𝕄 :=
  iprop(∃ K : Dev nD × CIx → ℕ, records m ρ K ∗ levAts L lv
    ∗ (dutyTok ER (kcell (prv c) barK) 0 true ∗ dutyTok ER (kcell (nxt c) barK) 0 false
      ∗ atPos ER (kcell c barK) 0 ∅ 0 ∗ cred (tallyAt (kcell c barK) () 2))
    ∗ restFrom c 0 ∗ Close c)

/-- Before the body: that, and the key/value buffer at anything; after it: the buffer, every semaphore at zero. -/
def Φ₀ (c : Dev nD) : sProp 𝕄 := iprop(start m ρ c ∗ ∃ f : KVBuf F, kvPts c Finset.univ f)
/-- What the device holds after the body, the staged arrays aside: the buffer as filled, and every semaphore at zero. -/
def Φ₁ (c : Dev nD) : sProp 𝕄 :=
  iprop(kvPts c Finset.univ (kvFin m ρ c) ∗ doneTo c 15 ∗ semVal (kcell c barK) 0 ∗ semVal (kcell c bar2K) 0)

/-- The launch's data: the arrays at launch, what the staged arrays hold after the body, and what is held and owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- Owning the memref of a whole buffer is the points-to of all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staged array is a whole buffer; -/
theorem stg_whole (c : Dev nD) (b : Ref sig .tc) (X : b.ty.Contents (Elt F)) : stg c b X ⊢ whole c b X := by
  unfold whole
  iintro ⟨%f, %h, H⟩
  subst h; iexact H
/-- and a whole buffer is a staged array. -/
theorem whole_stg (c : Dev nD) (b : Ref sig .tc) (X : b.ty.Contents (Elt F)) : whole c b X ⊢ stg c b X := by
  unfold whole
  iintro H
  iexists X
  isplitr; · ipureintro; rfl
  iexact H

/-- Before the body the first staged array holds the block of `x`, -/
theorem bef0 (c : Dev nD) (d) : (dats m ρ 0 c).before (0 : Fin 6) t0_0 d = xstg m ρ c := by unfold Dat.before; rw [if_pos (fetch0_0 t0_0)]; rfl
/-- the second the query matrix, -/
theorem bef1 (c : Dev nD) (d) : (dats m ρ 0 c).before (1 : Fin 6) t0_0 d = wqstg m ρ c := by unfold Dat.before; rw [if_pos (fetch0_1 t0_0)]; rfl
/-- the third the keys, -/
theorem bef2 (c : Dev nD) (d) : (dats m ρ 0 c).before (2 : Fin 6) t0_0 d = kstg m ρ c := by unfold Dat.before; rw [if_pos (fetch0_2 t0_0)]; rfl
/-- the fourth the values, -/
theorem bef3 (c : Dev nD) (d) : (dats m ρ 0 c).before (3 : Fin 6) t0_0 d = vstg m ρ c := by unfold Dat.before; rw [if_pos (fetch0_3 t0_0)]; rfl
/-- and the fifth the output matrix. -/
theorem bef4 (c : Dev nD) (d) : (dats m ρ 0 c).before (4 : Fin 6) t0_0 d = wostg m ρ c := by unfold Dat.before; rw [if_pos (fetch0_4 t0_0)]; rfl

/-- What the device holds before the body. -/
def bodyPre (c : Dev nD) : sProp 𝕄 :=
  iprop(Φ₀ m ρ c
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- What the device holds after the body. -/
def bodyPost (c : Dev nD) : sProp 𝕄 :=
  iprop(Φ₁ m ρ c ∗ (dats m ρ 0 c).owesAt () t0_0.succ ∗ stg c cc0_stg0_0 (xstg m ρ c) ∗ stg c cc0_stg1_0 (wqstg m ρ c)
    ∗ stg c cc0_stg2_0 (kstg m ρ c) ∗ stg c cc0_stg3_0 (vstg m ρ c) ∗ stg c cc0_stg4_0 (wostg m ρ c) ∗ stg c cc0_stg5_0 (outAt m ρ c))

/-- What the device holds before the body, sorted as the body's run takes it. -/
theorem pre_enter (c : Dev nD) :
    bodyPre m ρ c ⊢ iprop(∃ (K : Dev nD × CIx → ℕ) (out : (cc0_stg5_0 : Ref sig .tc).ty.Contents (Elt F)),
      Pre m ρ K c ∗ restFrom c 0 ∗ whole c cc0_stg3_0 (vstg m ρ c) ∗ Args m ρ c out ∗ Close c) := by
  unfold bodyPre Φ₀ start
  simp only [bef0, bef1, bef2, bef3, bef4]
  unfold Dat.owesAt Pipeline.owesWithin
  rw [show (dats m ρ 0 c).owed t0_0.castSucc = O₀ c from rfl]
  iintro ⟨⟨⟨%K, #HR, #Hlev, ⟨HtP, HtN, Hat, Hc⟩, Hrest, Hcl⟩, Hkv⟩, ⟨%W, %hW, HO⟩, ⟨%d0, H0⟩, ⟨%d1, H1⟩, ⟨%d2, H2⟩, ⟨%d3, H3⟩, ⟨%d4, H4⟩, ⟨%d5, H5⟩⟩
  ihave H0 := (stg_whole c cc0_stg0_0 (xstg m ρ c)) $$ H0
  ihave H1 := (stg_whole c cc0_stg1_0 (wqstg m ρ c)) $$ H1
  ihave H2 := (stg_whole c cc0_stg2_0 (kstg m ρ c)) $$ H2
  ihave H3 := (stg_whole c cc0_stg3_0 (vstg m ρ c)) $$ H3
  ihave H4 := (stg_whole c cc0_stg4_0 (wostg m ρ c)) $$ H4
  ihave H5 := (stg_whole c cc0_stg5_0 ((dats m ρ 0 c).before (5 : Fin 6) t0_0 d5)) $$ H5
  iexists K
  iexists ((dats m ρ 0 c).before (5 : Fin 6) t0_0 d5)
  isplitl [Hkv HO HtP HtN Hat Hc H2]
  · unfold Pre owing
    isplitr; · iexact HR
    isplitr; · iexact Hlev
    isplitl [Hkv]; · iexact Hkv
    isplitl [HO]; · iexists W; iexact HO
    isplitl [HtP]; · iexact HtP
    isplitl [HtN]; · iexact HtN
    isplitl [Hat]; · iexact Hat
    isplitl [Hc] <;> iassumption
  isplitl [Hrest]; · iexact Hrest
  isplitl [H3]; · iexact H3
  isplitl [H0 H1 H4 H5]
  · unfold Args
    isplitl [H0]; · iexact H0
    isplitl [H1]; · iexact H1
    isplitl [H4] <;> iassumption
  iexact Hcl

/-- What the body's run leaves is what the device must hold after the body. -/
theorem left_post (c : Dev nD) : Left m ρ c ⊢ bodyPost m ρ c := by
  unfold Left bodyPost Φ₁ Args owing
  unfold Dat.owesAt Pipeline.owesWithin
  rw [show (dats m ρ 0 c).owed t0_0.succ = 0 from rfl]
  iintro ⟨Hkv, ⟨%W, HO⟩, Hdone, Hz, Hz2, Hkey, Hval, Hx, Hwq, Hwo, Hout⟩
  isplitl [Hkv Hdone Hz Hz2]
  · isplitl [Hkv]; · iexact Hkv
    isplitl [Hdone]; · iexact Hdone
    isplitl [Hz] <;> iassumption
  isplitl [HO]
  · iexists W
    isplitr
    · ipureintro; exact fun _ _ => Or.inl trivial
    iexact HO
  isplitl [Hx]; · iapply (whole_stg c cc0_stg0_0 (xstg m ρ c)); iexact Hx
  isplitl [Hwq]; · iapply (whole_stg c cc0_stg1_0 (wqstg m ρ c)); iexact Hwq
  isplitl [Hkey]; · iapply (whole_stg c cc0_stg2_0 (kstg m ρ c)); iexact Hkey
  isplitl [Hval]; · iapply (whole_stg c cc0_stg3_0 (vstg m ρ c)); iexact Hval
  isplitl [Hwo]; · iapply (whole_stg c cc0_stg4_0 (wostg m ρ c)); iexact Hwo
  iapply (whole_stg c cc0_stg5_0 (outAt m ρ c)); iexact Hout

/-- The body of the call, at any device: from `bodyPre` it ends without fault in `bodyPost`. -/
theorem sound_body (c : Dev nD) :
    bodyPre m ρ c ⊢ wp frame (wpE (defs₀ (F := F)) 𝒱₀ (c : Thread nD τ) none) Set.univ
        (cc0_body (F := F) xM (Memref.isWhole_whole _) wqM (Memref.isWhole_whole _) keyM (Memref.isWhole_whole _) valM (Memref.isWhole_whole _)
          woM (Memref.isWhole_whole _) outM (Memref.isWhole_whole _) kvM (Memref.isWhole_whole _) cc0_scratch1 cc0_scratch2 cc0_scoped0)
        (fun _ => bodyPost m ρ c) := by
  refine (pre_enter m ρ c).trans ?_
  iintro ⟨%K, %out, H⟩
  have h := (wp_body m ρ K c out).trans (wp_mono _ _ _ fun _ => left_post m ρ c)
  iapply h
  iexact H

set_option maxRecDepth 8000 in
/-- The body's obligation at the pipeline's one point. -/
theorem body_obligation (c : Dev nD) : BodyObligation (dats m ρ 0 c) (defs₀ (F := F)) 𝒱₀ () Set.univ := fun t => by
  rw [fin_N0 t]
  rw [bigSep_W0, bigSep_W0]
  simp only [owns_whole_eq]
  exact sound_body m ρ c

end Cert.KernelIdealProof

end
-- ==== Proof.Launch.lean ====
/-
# The launch

The semaphores of all devices under their invariants, the duties and credits dealt around the ring, and the run of the
whole program: every execution ends, each device's result array at what the body computes, its arguments as they were,
every semaphore at zero.
-/
module

public import proofs.«01_k».proof.Proof.Body
public import Idealize.ShloMosaic.Lib.Pipeline.Launch
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The semaphores scoped to the kernel are as the launch requires them: distinct, and none of the staging's. -/
theorem ownSemFacts : Pipeline.OwnSemFacts cfg0.spec osem := by decide +kernel

/-- Every array is held in full. -/
theorem share_eq (c : Dev nD) (w : Fin cfg0.W) : (dats m ρ 0 c).share w = fullShare := by unfold Dat.share; split <;> rfl

/-- All of the ring's semaphores. -/
abbrev cellAt (ck : Dev nD × CIx) : GSem nD τ sig := kcell ck.1 ck.2
/-- Different devices or kinds have different semaphores. -/
theorem cellAt_injective : Function.Injective cellAt := fun a b h => Prod.ext (kcell_inj h).1 (kcell_inj h).2
/-- The ring's semaphores, of all devices. -/
def ringCells : Finset (GSem nD τ sig) := Finset.univ.map ⟨cellAt, cellAt_injective⟩

/-- Their duties of round 0, two for each; those that are no duty of the schedule are never used. -/
abbrev tokOf (x : (Dev nD × CIx) × Bool) : GSem nD τ sig × ℕ × Bool := (cellAt x.1, 0, x.2)
/-- Different duties have different tokens. -/
theorem tokOf_injective : Function.Injective tokOf := fun a b h =>
  Prod.ext (cellAt_injective (congrArg Prod.fst h)) (congrArg (fun y : GSem nD τ sig × ℕ × Bool => y.2.2) h)
/-- The tokens of all duties. -/
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- Something for every semaphore of a device, sorted by kind. -/
theorem bigSep_kinds (Φ : CIx → sProp 𝕄) :
    bigSep Finset.univ Φ = iprop((Φ barK ∗ Φ bar2K) ∗ (bigSep Finset.univ fun h => Φ (sendK h)) ∗ bigSep Finset.univ fun h => Φ (recvK h)) := by
  rw [bigSep_univ_sum, bigSep_univ_sum, bigSep_univ_eq_bigSepL [false, true] (by decide) (by decide), bigSepL_cons_cons, bigSepL_singleton]
  rfl

/-- The duty tokens of device `c`'s own semaphores. -/
def toks (c : Dev nD) : sProp 𝕄 := bigSep Finset.univ fun k : CIx => bigSep Finset.univ fun d : Bool => dutyTok ER (kcell c k) 0 d

/-- What the launch gives device `c`; -/
def G (c : Dev nD) : sProp 𝕄 :=
  iprop((bigSep Finset.univ fun k : CIx => roundState ER (ringRd m ρ) (kcell c k) 0)
    ∗ (bigSep Finset.univ fun k : CIx => iprop(atPos ER (kcell c k) 0 ∅ 0 ∗ reached ER (kcell c k) 0)) ∗ toks c)

/-- The duties that device `c` pays: on its neighbours' barriers, on its own send semaphores, on the receive semaphores
    of the device after it. -/
def payToks (c : Dev nD) : sProp 𝕄 :=
  iprop((dutyTok ER (kcell (prv c) barK) 0 true ∗ dutyTok ER (kcell (nxt c) barK) 0 false)
    ∗ (dutyTok ER (kcell (prv c) bar2K) 0 true ∗ dutyTok ER (kcell (nxt c) bar2K) 0 false)
    ∗ (bigSep Finset.univ fun h : Fin 15 => dutyTok ER (kcell c (sendK h)) 0 false)
    ∗ bigSep Finset.univ fun h : Fin 15 => dutyTok ER (kcell (nxt c) (recvK h)) 0 false)
/-- and what of it stays with device `c` alone, -/
def linear (c : Dev nD) : sProp 𝕄 := iprop((bigSep Finset.univ fun k : CIx => atPos ER (kcell c k) 0 ∅ 0) ∗ payToks c)
/-- with the records. -/
def G' (c : Dev nD) : sProp 𝕄 := iprop(∃ K : Dev nD × CIx → ℕ, records m ρ K ∗ linear c)

/-- The ghost state at launch gives each device its share `G`. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CIx => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the closing barrier, the sends, the receives. -/
theorem ownSems0_eq (c : Dev nD) : (Pipeline.ownSems0 (Ix := Unit) (Name := ℕ) (U := UU) (Lvl := ℕ) (Val := Elt F) (τ := τ) osem c : sProp 𝕄)
    = iprop(semVal (kcell c bar2K) 0 ∗ (bigSep Finset.univ fun h => semVal (kcell c (sendK h)) 0) ∗ bigSep Finset.univ fun h => semVal (kcell c (recvK h)) 0) := by
  unfold Pipeline.ownSems0
  rw [bigSep_univ_sum, bigSep_univ_sum, bigSep_univ_eq_bigSepL [()] (by decide) (by decide), bigSepL_singleton]
  rfl
/-- The runtime's barrier is the one that is not. -/
theorem unscopedSems0_eq (c : Dev nD) : (unscopedSems0 c : sProp 𝕄) = semVal (kcell c barK) 0 := by
  unfold unscopedSems0; rw [bigSep_eq_bigSepL_of_eq [SemLoc.reg barS] (by decide +kernel) (by decide)]; rfl

/-- A device's semaphores, scoped or not, are the ring's, all at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell c k) 0 : sProp 𝕄) := by
  rw [ownSems0_eq, unscopedSems0_eq, bigSep_kinds]
  iintro ⟨⟨H2, HS, HV⟩, HB⟩
  isplitl [HB H2]
  · isplitl [HB] <;> iassumption
  isplitl [HS] <;> iassumption

/-- On each device the semaphores at zero and the share `G` give the ring's invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (ringRd m ρ) κ (kcell c k)))
          ∗ (bigSep Finset.univ fun k : CIx => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell c k) 0) ∗ bigSep Finset.univ fun k : CIx => roundState ER (ringRd m ρ) (kcell c k) 0)
      ⊢ (|={Set.univ}=> bigSep Finset.univ fun k : CIx => iprop(∃ κ : ℕ, cellInv ER (ringRd m ρ) κ (kcell c k)) : sProp 𝕄) from by
        rw [← bigSep_sep']
        exact (bigSep_mono fun k _ => (Rounds.body_intro ER (ringRd m ρ) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- One of the two tokens of each. -/
theorem tok_false (c : Dev nD) (k : CIx) : (bigSep Finset.univ fun d : Bool => (dutyTok ER (kcell c k) 0 d : sProp 𝕄)) ⊢ dutyTok ER (kcell c k) 0 false :=
  bigSep_elim (Finset.mem_univ false)
/-- The tokens of the two duties of a semaphore. -/
theorem tok_both (c : Dev nD) (k : CIx) : (bigSep Finset.univ fun d : Bool => (dutyTok ER (kcell c k) 0 d : sProp 𝕄))
    ⊢ iprop(dutyTok ER (kcell c k) 0 true ∗ dutyTok ER (kcell c k) 0 false) :=
  Entails.of_eq (by rw [bigSep_univ_eq_bigSepL [true, false] (by decide) (by decide), bigSepL_cons_cons, bigSepL_singleton]; rfl)

/-- The tokens of a device's semaphores that have a duty, by kind. -/
theorem toks_kinds (c : Dev nD) :
    (toks c : sProp 𝕄) ⊢ iprop((dutyTok ER (kcell c barK) 0 true ∗ dutyTok ER (kcell c barK) 0 false)
      ∗ (dutyTok ER (kcell c bar2K) 0 true ∗ dutyTok ER (kcell c bar2K) 0 false)
      ∗ (bigSep Finset.univ fun h : Fin 15 => dutyTok ER (kcell c (sendK h)) 0 false)
      ∗ bigSep Finset.univ fun h : Fin 15 => dutyTok ER (kcell c (recvK h)) 0 false) := by
  unfold toks
  rw [bigSep_kinds]
  iintro ⟨⟨HB, H2⟩, HS, HV⟩
  isplitl [HB]; · iapply (tok_both c barK); iexact HB
  isplitl [H2]; · iapply (tok_both c bar2K); iexact H2
  have hS : (bigSep Finset.univ fun h : Fin 15 => bigSep Finset.univ fun d : Bool => (dutyTok ER (kcell c (sendK h)) 0 d : sProp 𝕄))
      ⊢ bigSep Finset.univ fun h : Fin 15 => dutyTok ER (kcell c (sendK h)) 0 false := bigSep_mono fun h _ => tok_false c (sendK h)
  have hV : (bigSep Finset.univ fun h : Fin 15 => bigSep Finset.univ fun d : Bool => (dutyTok ER (kcell c (recvK h)) 0 d : sProp 𝕄))
      ⊢ bigSep Finset.univ fun h : Fin 15 => dutyTok ER (kcell c (recvK h)) 0 false := bigSep_mono fun h _ => tok_false c (recvK h)
  isplitl [HS]; · iapply hS; iexact HS
  iapply hV; iexact HV

/-- The tokens dealt around the ring. -/
theorem toks_around : (bigSep Finset.univ fun c : Dev nD => (toks c : sProp 𝕄)) ⊢ bigSep Finset.univ fun c : Dev nD => payToks c := by
  refine (bigSep_mono fun c _ => toks_kinds c).trans ?_
  unfold payToks
  rw [bigSep_sep', bigSep_sep', bigSep_sep', bigSep_sep', bigSep_sep', bigSep_sep', bigSep_sep', bigSep_sep', bigSep_sep', bigSep_sep',
    bigSep_univ_equiv ring.symm (fun c : Dev nD => (dutyTok ER (kcell c barK) 0 true : sProp 𝕄)),
    bigSep_univ_equiv ring (fun c : Dev nD => (dutyTok ER (kcell c barK) 0 false : sProp 𝕄)),
    bigSep_univ_equiv ring.symm (fun c : Dev nD => (dutyTok ER (kcell c bar2K) 0 true : sProp 𝕄)),
    bigSep_univ_equiv ring (fun c : Dev nD => (dutyTok ER (kcell c bar2K) 0 false : sProp 𝕄)),
    bigSep_univ_equiv ring (fun c : Dev nD => (bigSep Finset.univ fun h : Fin 15 => dutyTok ER (kcell c (recvK h)) 0 false : sProp 𝕄))]
  exact BI.Entails.refl _

/-- A persistent fact may be used at every member of a big conjunction. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens go from the device whose semaphore it is to the device that pays; every device gets all invariants. -/
theorem regroup :
    (bigSep Finset.univ fun c : Dev nD => iprop((bigSep Finset.univ fun k : CIx => iprop(∃ κ : ℕ, cellInv ER (ringRd m ρ) κ (kcell c k)))
          ∗ (bigSep Finset.univ fun k : CIx => iprop(atPos ER (kcell c k) 0 ∅ 0 ∗ reached ER (kcell c k) 0)) ∗ toks c) : sProp 𝕄)
      ⊢ bigSep Finset.univ (G' m ρ) := by
  rw [bigSep_sep', bigSep_sep', ← bigSep_univ_prod (fun ck : Dev nD × CIx => iprop(∃ κ : ℕ, cellInv ER (ringRd m ρ) κ (kcell ck.1 ck.2))),
    bigSep_congr (s := Finset.univ) (fun (c : Dev nD) _ => bigSep_sep' Finset.univ (fun k : CIx => (atPos ER (kcell c k) 0 ∅ 0 : sProp 𝕄)) (fun k => reached ER (kcell c k) 0)),
    bigSep_sep', ← bigSep_univ_prod (fun ck : Dev nD × CIx => (reached ER (kcell ck.1 ck.2) 0 : sProp 𝕄))]
  iintro ⟨HI, ⟨Hat, #HR⟩, Htok⟩
  ihave HK := (BI.bigSep_exists_pi Finset.univ (fun (ck : Dev nD × CIx) (κ : ℕ) => (cellInv ER (ringRd m ρ) κ (kcell ck.1 ck.2) : sProp 𝕄))) $$ HI
  icases HK with ⟨%K, #HI⟩
  ihave Htk := (toks_around (F := F)) $$ Htok
  have hg (c : Dev nD) : iprop(records m ρ K ∗ linear c) ⊢ G' m ρ c := by
    unfold G'
    iintro H
    iexists K; iexact H
  iapply (bigSep_with (R := records m ρ K) fun c _ => hg c)
  isplitr
  · unfold records; isplitl; · iexact HI
    iexact HR
  · unfold linear
    rw [bigSep_sep']
    isplitl [Hat]; · iexact Hat
    iexact Htk

/-- All devices' semaphores and shares at launch give each device what it starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What device `c` can expect on its semaphores. -/
def credAmt (c : Dev nD) : CIx → ℕ
  | .inl _ => 2
  | .inr (.inl _) => 0
  | .inr (.inr h) => inAmt c h

/-- A tally on one of the ring's semaphores, read at another. -/
theorem tally_k (a c : Dev nD) (j k : CIx) (n : ℕ) :
    (tallyAt (kcell a j) () n : CellTallies nD τ sig Unit) (kcell c k) () = if a = c ∧ j = k then n else 0 := by
  rw [tallyAt_apply]
  by_cases h : a = c ∧ j = k
  · rw [if_pos h, if_pos ⟨by rw [h.1, h.2], rfl⟩]
  · rw [if_neg h, if_neg fun h' => h ⟨(kcell_inj h'.1).1.symm, (kcell_inj h'.1).2.symm⟩]

/-- Summed over the devices, what goes to the next device arrives once, and likewise what goes to the one before. -/
theorem sum_nxt (c : Dev nD) (f : Dev nD → ℕ) : ∑ d : Dev nD, (if nxt d = c then f d else 0) = f (prv c) := by
  rw [Finset.sum_eq_single (prv c) (fun d _ hd => if_neg fun h => hd (by rw [← h, prv_nxt])) (fun h => absurd (Finset.mem_univ _) h), nxt_prv, if_pos rfl]
/-- A sum over the devices whose predecessor is `c` is its term at the device after `c`. -/
theorem sum_prv (c : Dev nD) (f : Dev nD → ℕ) : ∑ d : Dev nD, (if prv d = c then f d else 0) = f (nxt c) := by
  rw [Finset.sum_eq_single (nxt c) (fun d _ hd => if_neg fun h => hd (by rw [← h, nxt_prv])) (fun h => absurd (Finset.mem_univ _) h), prv_nxt, if_pos rfl]

/-- What all devices together put on their successors' semaphores, read at device `c`. -/
theorem total_nxt (c : Dev nD) (j k : CIx) (n : ℕ) :
    ∑ d : Dev nD, (tallyAt (kcell (nxt d) j) () n : CellTallies nD τ sig Unit) (kcell c k) () = if j = k then n else 0 := by
  rw [← sum_nxt c fun _ => if j = k then n else 0]
  refine Finset.sum_congr rfl fun d _ => ?_
  rw [tally_k]
  by_cases h : nxt d = c <;> simp [h]
/-- What all devices together put on their predecessors' semaphores, read at device `c`. -/
theorem total_prv (c : Dev nD) (j k : CIx) (n : ℕ) :
    ∑ d : Dev nD, (tallyAt (kcell (prv d) j) () n : CellTallies nD τ sig Unit) (kcell c k) () = if j = k then n else 0 := by
  rw [← sum_prv c fun _ => if j = k then n else 0]
  refine Finset.sum_congr rfl fun d _ => ?_
  rw [tally_k]
  by_cases h : prv d = c <;> simp [h]

/-- What device `d` owes on semaphore `k` of device `c` for its copies. -/
theorem copies_at (d c : Dev nD) (k : CIx) :
    (∑ h ∈ Finset.univ.filter (fun h : Fin 15 => 0 ≤ h.val ∧ h.val ≤ d.val ∧ d.val < 15), (tallyAt (kcell (nxt d) (recvK h)) () N : CellTallies nD τ sig Unit)) (kcell c k) ()
      = if nxt d = c then (match k with | .inr (.inr h) => if h.val ≤ d.val ∧ d.val < 15 then N else 0 | _ => 0) else 0 := by
  rw [Finset.sum_apply, Finsupp.finset_sum_apply, Finset.sum_congr rfl fun h _ => tally_k (nxt d) c (recvK h) k N]
  by_cases hd : nxt d = c
  · rw [if_pos hd]
    rcases k with b | (h | h)
    · exact Finset.sum_eq_zero fun x _ => if_neg fun h' => by cases h'.2
    · exact Finset.sum_eq_zero fun x _ => if_neg fun h' => by cases h'.2
    · dsimp only
      by_cases hh : h.val ≤ d.val ∧ d.val < 15
      · rw [if_pos hh, Finset.sum_eq_single h (fun x _ hx => if_neg fun h' => hx (by cases h'.2; rfl))
          (fun hn => absurd (Finset.mem_filter.mpr ⟨Finset.mem_univ _, Nat.zero_le _, hh⟩) hn), if_pos ⟨hd, rfl⟩]
      · rw [if_neg hh]
        refine Finset.sum_eq_zero fun x hx => if_neg fun h' => ?_
        cases h'.2
        exact hh (Finset.mem_filter.mp hx).2.2
  · rw [if_neg hd]
    exact Finset.sum_eq_zero fun x _ => if_neg fun h' => hd h'.1

/-- What all devices together owe to a semaphore is what its device expects. -/
theorem owed_total (c : Dev nD) (k : CIx) : ∑ d : Dev nD, O₀ d (kcell c k) () = credAmt c k := by
  unfold O₀ O₁ Ox OB
  simp only [Pi.add_apply, Finsupp.add_apply, Finset.sum_add_distrib, copies_at, total_nxt, total_prv, sum_nxt]
  rcases k with (_ | _) | (h | h)
  · rfl
  · rfl
  · rfl
  · have hp : (h.val ≤ (prv c).val ∧ (prv c).val < 15) ↔ h.val + 1 ≤ c.val := by
      have h1 := lt16 c
      have h2 := h.isLt
      have hv : (prv c).val = (c.val + 15) % 16 := rfl
      rcases Nat.eq_zero_or_pos c.val with h0 | h0 <;> omega
    simp only [hp]
    show 0 + 0 + (if h.val + 1 ≤ c.val then N else 0) + 0 + 0 = inAmt c h
    unfold inAmt; omega

/-- The credit that the launch gives for one of the ring's semaphores. -/
theorem launch_k (c : Dev nD) (k : CIx) :
    tallyOn (kcell c k) (launchCredit (Pipeline.owing O₀) 0 (kcell c k)) = (tallyAt (kcell c k) () (credAmt c k) : CellTallies nD τ sig Unit) := by
  unfold tallyAt; refine congrArg _ (Finsupp.ext fun u => ?_); cases u
  rw [Pipeline.launchCredit_owing, Finsupp.single_eq_same, owed_total]

/-- A device's launch credit, by kind. -/
theorem creds (c : Dev nD) :
    (Pipeline.launchCred O₀ c : sProp 𝕄) ⊢ iprop((cred (tallyAt (kcell c barK) () 2) ∗ cred (tallyAt (kcell c bar2K) () 2))
      ∗ bigSep Finset.univ fun h : Fin 15 => cred (tallyAt (kcell c (recvK h)) () (inAmt c h))) := by
  unfold Pipeline.launchCred
  refine (bigSep_subset (t := Finset.univ.map ⟨csem, csem_inj⟩) (Finset.subset_univ _)).trans ?_
  rw [bigSep_map]
  refine (Entails.of_eq (bigSep_congr fun k _ => congrArg cred (launch_k c k))).trans ?_
  rw [bigSep_kinds]
  iintro ⟨HB, -, HV⟩
  isplitl [HB]; · iexact HB
  iexact HV

/-! ### The theorem's side conditions -/

/-- What the fifteen steps take, collected by step. -/
theorem restFrom_zero (c : Dev nD) :
    iprop((bigSep Finset.univ fun h : Fin 15 => atPos ER (kcell c (sendK h)) 0 ∅ 0) ∗ (bigSep Finset.univ fun h : Fin 15 => dutyTok ER (kcell c (sendK h)) 0 false)
      ∗ (bigSep Finset.univ fun h : Fin 15 => dutyTok ER (kcell (nxt c) (recvK h)) 0 false) ∗ (bigSep Finset.univ fun h : Fin 15 => atPos ER (kcell c (recvK h)) 0 ∅ 0)
      ∗ bigSep Finset.univ fun h : Fin 15 => cred (tallyAt (kcell c (recvK h)) () (inAmt c h))) ⊢ (restFrom c 0 : sProp 𝕄) := by
  unfold restFrom stepRes
  rw [Finset.filter_true_of_mem (fun x _ => Nat.zero_le _), bigSep_sep', bigSep_sep', bigSep_sep', bigSep_sep']
/-- After the fifteen steps every send and receive semaphore is at zero. -/
theorem doneTo_all (c : Dev nD) :
    (doneTo c 15 : sProp 𝕄) ⊢ iprop((bigSep Finset.univ fun h => semVal (kcell c (sendK h)) 0) ∗ bigSep Finset.univ fun h => semVal (kcell c (recvK h)) 0) := by
  unfold doneTo stepDone
  rw [Finset.filter_true_of_mem (fun x _ => x.isLt), bigSep_sep']

/-- What the launch leaves to a device gives `start`. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' linear payToks Close
  rw [bigSep_kinds]
  iintro ⟨-, Hlev, Hcr, -, ⟨%K, HR, ⟨⟨HaB, Ha2⟩, HaS, HaV⟩, ⟨HtB, HtB'⟩, ⟨Ht2, Ht2'⟩, HtS, HtV⟩⟩
  ihave Hc := (creds (F := F) c) $$ Hcr
  icases Hc with ⟨⟨HcB, Hc2⟩, HcV⟩
  ihave Hrest := (restFrom_zero (F := F) c) $$ [HaS HtS HtV HaV HcV]
  · isplitl [HaS]; · iexact HaS
    isplitl [HtS]; · iexact HtS
    isplitl [HtV]; · iexact HtV
    isplitl [HaV] <;> iassumption
  imodintro
  isplitl
  · iexists K
    isplitl [HR]; · iexact HR
    isplitl [Hlev]; · iexact Hlev
    isplitl [HtB HtB' HaB HcB]
    · isplitl [HtB]; · iexact HtB
      isplitl [HtB']; · iexact HtB'
      isplitl [HaB] <;> iassumption
    isplitl [Hrest]; · iexact Hrest
    isplitl [Ht2]; · iexact Ht2
    isplitl [Ht2']; · iexact Ht2'
    isplitl [Ha2] <;> iassumption
  · iempintro

/-- `start` and the scratch buffer are what the device holds before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold kvPts; iexact Hr

/-- What the device holds after the body gives its semaphores at zero and the scratch buffer back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, Hdone, HzB, Hz2⟩
  ihave Hd := (doneTo_all (F := F) c) $$ Hdone
  isplitl [HzB]; · iexact HzB
  isplitl [Hd Hz2]
  · isplitl [Hz2] <;> iassumption
  iexists (kvFin m ρ c); unfold kvPts; iexact Hr

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c w s _ (by
      rcases t with ⟨_ | _, ht⟩
      · exact Or.inl rfl
      · exact Or.inr rfl)

/-! ### The run -/

/-- What an array of device `c` holds at the end. -/
def finalA (c : Dev nD) (w : Fin cfg0.W) : Buf (Elt F) ((cfg0.win w).arr.view.loc (c : Thread nD τ)) := (dats m ρ 0 c).arrAt w cfg0.N

/-- What the run ends with: each device's arrays as `finalA` says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any float values, from any memory with every semaphore at zero: every fair execution ends,
    with each device's arrays as `finalA` says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Frames.lean ====
/- The frame claims of both printings of the kernel, read off the one run `Cert.KernelIdealProof.run_main`: the launch
   changes none of the five argument arrays and leaves every counter at zero. -/
module

public import proofs.«01_k».proof.Proof.Launch
public import proofs.«01_k».proof.Proof.Gen.Kernel
public import proofs.«01_k».proof.Defs

@[expose] public section

noncomputable section

namespace Cert.KernelIdealProof

open Idealize.ShloMosaic Idealize.ShloMosaic.TcCoe Idealize.SL.Sem
open Cert.KernelIdeal Cert.KernelIdeal.Gen

section Args

variable {F : FTy → Type} [FloatOps F] [Named F]

variable (m : (ℓ : Loc nD τ sig) → Buf (Elt F) ℓ) (ρ : Dev nD → PrngReg)

/-- The pipeline writes no input array: at the end `x` is as launched. -/
theorem finalA_x (c : Dev nD) : finalA m ρ c (0 : Fin 6) = m ((c : Thread nD τ).loc main_arg0) :=
  (dats m ρ 0 c).arrAt_in (0 : Fin 6) rfl _

/-- Nor `wq`. -/
theorem finalA_wq (c : Dev nD) : finalA m ρ c (1 : Fin 6) = m ((c : Thread nD τ).loc main_arg1) :=
  (dats m ρ 0 c).arrAt_in (1 : Fin 6) rfl _

/-- Nor the device's own keys. -/
theorem finalA_k (c : Dev nD) : finalA m ρ c (2 : Fin 6) = m ((c : Thread nD τ).loc main_arg2) :=
  (dats m ρ 0 c).arrAt_in (2 : Fin 6) rfl _

/-- Nor its own values. -/
theorem finalA_v (c : Dev nD) : finalA m ρ c (3 : Fin 6) = m ((c : Thread nD τ).loc main_arg3) :=
  (dats m ρ 0 c).arrAt_in (3 : Fin 6) rfl _

/-- Nor `wo`. -/
theorem finalA_wo (c : Dev nD) : finalA m ρ c (4 : Fin 6) = m ((c : Thread nD τ).loc main_arg4) :=
  (dats m ρ 0 c).arrAt_in (4 : Fin 6) rfl _

/-- What every run of the launch comes to, of the arguments: they are unchanged. -/
theorem args_of_QC {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c (0 : Fin 6)).trans (finalA_x m ρ c), (h c (1 : Fin 6)).trans (finalA_wq m ρ c),
    (h c (2 : Fin 6)).trans (finalA_k m ρ c), (h c (3 : Fin 6)).trans (finalA_v m ρ c),
    (h c (4 : Fin 6)).trans (finalA_wo m ρ c)⟩

end Args

/-- The frame of the kernel over the extended reals. -/
theorem frame_kernelIdeal : Cert.quiescent_KernelIdeal := by
  intro m ρ _
  exact (θ_run Cert.KernelIdeal.defs _ _).mono (fun _ h => ⟨fun c => args_of_QC m ρ h.1 c, h.2⟩)
    (run_main (F := Ideal) m ρ)

/-- Over machine words the mask's name is read as its printed bits, as the kernel itself has it. -/
local instance namedBits : Named Bits where
  named _ _ {φ} bits := Scalar.ofBits φ bits

/-- Read so, the two printings are one kernel body. -/
theorem body_eq : @Cert.Kernel.cc0_body Bits _ Cert.Kernel.Gen.facts = @Cert.KernelIdeal.cc0_body Bits _ _ Cert.KernelIdeal.Gen.facts := rfl

/-- So the tables of bodies are one. -/
theorem defs₀_eq : Cert.Kernel.defs₀ (F := Bits) = Cert.KernelIdeal.defs₀ (F := Bits) := by
  funext p ℓ a
  cases p with
  | tc =>
    match ℓ, a with
    | ⟨0, _⟩, a => rfl
  | scScalar _ => rfl
  | scVector _ _ => rfl

/-- And the tables with the pipeline's own labels. -/
theorem defs_eq : Cert.Kernel.defs (F := Bits) = Cert.KernelIdeal.defs (F := Bits) :=
  congrArg (Pipeline.defs (Cert.KernelIdeal.pcfgs (F := Bits))) defs₀_eq

/-- The frame of the kernel as written: read so, the two printings are one program. -/
theorem frame_kernel : Cert.quiescent_Kernel := by
  intro m ρ _
  rw [defs_eq]
  exact (θ_run Cert.KernelIdeal.defs _ _).mono (fun _ h => ⟨fun c => args_of_QC m ρ h.1 c, h.2⟩)
    (run_main (F := Bits) m ρ)

end Cert.KernelIdealProof
-- ==== Proof.Spec.lean ====
/-
# Attention over blocks, as plain mathematics

The extended reals the result of the problem is made of: queries, masked scores, softmax weights, weighted values, and
their product with the output weights. Both programs are shown to compute `result`.
-/
module

public import Idealize.ShloMosaic.Lib.Pointwise
public import Mathlib.Algebra.BigOperators.Fin

@[expose] public section

noncomputable section

namespace Cert.Attention

open Idealize.ShloMosaic

/-! ## Softmax -/

section Softmax

variable {n : ℕ} (s : Fin n → EReal)

/-- The largest of the scores of a row. -/
def top : EReal := Finset.univ.fold max ⊥ s

/-- The softmax weight of column `j`. -/
def weight (j : Fin n) : EReal := Ideal.div (Ideal.exp (s j - top s)) (∑ k, Ideal.exp (s k - top s))

/-- The maximum of a row is its supremum. -/
theorem top_eq_sup : top s = Finset.univ.sup s := rfl

/-- A row whose scores are not `+∞` and not all `−∞` has a real maximum, which one of its columns attains. -/
theorem exists_top (h : ∀ j, s j ≠ ⊤) {j₀ : Fin n} (h₀ : s j₀ ≠ ⊥) : ∃ k, s k = top s ∧ s k ≠ ⊤ ∧ s k ≠ ⊥ := by
  obtain ⟨k, -, hk⟩ := Finset.exists_mem_eq_sup Finset.univ ⟨j₀, Finset.mem_univ j₀⟩ s
  have hk' : s k = top s := by rw [top_eq_sup]; exact hk.symm
  refine ⟨k, hk', h k, fun hb => h₀ ?_⟩
  have hle : s j₀ ≤ top s := by rw [top_eq_sup]; exact Finset.le_sup (Finset.mem_univ j₀)
  rw [← hk', hb] at hle
  exact le_bot_iff.mp hle

/-- An exponential is not negative. -/
theorem exp_nonneg (x : EReal) : 0 ≤ Ideal.exp x := by
  induction x using EReal.rec with
  | bot => exact le_refl _
  | coe r => exact EReal.coe_nonneg.mpr (Real.exp_pos r).le
  | top => exact le_top

/-- The sum of the exponentials of such a row is not zero: the maximum contributes one. -/
theorem sum_exp_ne_zero (h : ∀ j, s j ≠ ⊤) {j₀ : Fin n} (h₀ : s j₀ ≠ ⊥) : (∑ k, Ideal.exp (s k - top s)) ≠ 0 := by
  obtain ⟨k, hk, hkt, hkb⟩ := exists_top s h h₀
  have h1 : Ideal.exp (s k - top s) = 1 := by
    rw [← hk, EReal.sub_self hkt hkb]
    show Ideal.exp ((0 : ℝ) : EReal) = 1
    show ((Real.exp 0 : ℝ) : EReal) = 1
    rw [Real.exp_zero]; rfl
  have hle : Ideal.exp (s k - top s) ≤ ∑ k, Ideal.exp (s k - top s) :=
    Finset.single_le_sum (f := fun k => Ideal.exp (s k - top s)) (fun i _ => exp_nonneg _) (Finset.mem_univ k)
  rw [h1] at hle
  intro h0
  rw [h0] at hle
  exact absurd hle (by norm_num)

/-- A column at `−∞` has weight zero. -/
theorem weight_bot (h : ∀ j, s j ≠ ⊤) {j₀ : Fin n} (h₀ : s j₀ ≠ ⊥) {j : Fin n} (hj : s j = ⊥) : weight s j = 0 := by
  unfold weight
  rw [hj, EReal.bot_sub]
  show Ideal.div 0 _ = 0
  rw [Ideal.div, if_neg (sum_exp_ne_zero s h h₀), zero_mul]

/-- So a weighted sum does not see the values under columns at `−∞`. -/
theorem mix_congr (h : ∀ j, s j ≠ ⊤) {j₀ : Fin n} (h₀ : s j₀ ≠ ⊥) (v v' : Fin n → EReal) (hv : ∀ j, s j ≠ ⊥ → v j = v' j) :
    (∑ j, weight s j * v j) = ∑ j, weight s j * v' j := by
  refine Finset.sum_congr rfl fun j _ => ?_
  by_cases hj : s j = ⊥
  · rw [weight_bot s h h₀ hj, zero_mul, zero_mul]
  · rw [hv j hj]

end Softmax

/-! ## Finite numbers -/

/-- Neither infinity. -/
def IsFin (x : EReal) : Prop := x ≠ ⊤ ∧ x ≠ ⊥

/-- A real number is finite. -/
theorem IsFin.coe (r : ℝ) : IsFin (r : EReal) := ⟨EReal.coe_ne_top r, EReal.coe_ne_bot r⟩
/-- A finite extended real is a real number. -/
theorem IsFin.exists {x : EReal} (h : IsFin x) : ∃ r : ℝ, x = r := ⟨x.toReal, (EReal.coe_toReal h.1 h.2).symm⟩
/-- A product of finite numbers is finite. -/
theorem IsFin.mul {x y : EReal} (hx : IsFin x) (hy : IsFin y) : IsFin (x * y) := by
  obtain ⟨a, rfl⟩ := hx.exists
  obtain ⟨b, rfl⟩ := hy.exists
  rw [← EReal.coe_mul]; exact .coe _
/-- A sum of two finite numbers is finite. -/
theorem IsFin.add {x y : EReal} (hx : IsFin x) (hy : IsFin y) : IsFin (x + y) := by
  obtain ⟨a, rfl⟩ := hx.exists
  obtain ⟨b, rfl⟩ := hy.exists
  rw [← EReal.coe_add]; exact .coe _
/-- A sum of finitely many finite numbers is finite. -/
theorem IsFin.sum {ι : Type*} (S : Finset ι) {f : ι → EReal} (hf : ∀ i ∈ S, IsFin (f i)) : IsFin (∑ i ∈ S, f i) :=
  Finset.sum_induction f IsFin (fun _ _ => IsFin.add) (.coe 0) hf

/-! ## The problem -/

/-- The `d`-th column of head `h`, of 64 columns each. -/
def col (h : Fin 4) (d : Fin 64) : Fin 256 := ⟨h.val * 64 + d.val, by omega⟩

section Problem

variable (X : FVec Ideal ⟨3, ![2, 2048, 512]⟩ .bf16) (Wq : FVec Ideal ⟨2, ![512, 256]⟩ .bf16) (K V : FVec Ideal ⟨4, ![2, 2048, 4, 64]⟩ .bf16)
  (Wo : FVec Ideal ⟨2, ![256, 512]⟩ .bf16) (b : Fin 2) (h : Fin 4) (i : Fin 2048)

/-- The query of row `i`. -/
def query (d : Fin 64) : EReal := ∑ k : Fin 512, (X (ix3 b i k) : EReal) * Wq (ix2 k (col h d))

/-- The scale: one eighth. -/
def scale : EReal := Ideal.ofBits .f32 0x3E000000#32

/-- The score of key `j` for row `i`, `−∞` where the key's block is after the row's. -/
def score (j : Fin 2048) : EReal :=
  if j.val / 64 ≤ i.val / 64 then (∑ d : Fin 64, query X Wq b h i d * (K (ix4 b j h d) : EReal)) * scale else ⊥

/-- The values of a head weighted by its scores. -/
def attended (d : Fin 64) : EReal := ∑ j : Fin 2048, weight (score X Wq K b h i) j * (V (ix4 b j h d) : EReal)

/-- The part of the result that head `h` contributes. -/
def contribution (n : Fin 512) : EReal := ∑ d : Fin 64, attended X Wq K V b h i d * (Wo (ix2 (col h d) n) : EReal)

/-- The result of the problem. -/
def result (n : Fin 512) : EReal := ∑ h : Fin 4, contribution X Wq K V Wo b h i n

/-- The scale is 1/8. -/
theorem scale_eq : scale = (((1 : ℝ) / 8 : ℝ) : EReal) := by
  unfold scale
  simp [Ideal.ofBits, Ideal.ieee, -EReal.coe_mul]
  norm_num

/-- The scale is finite. -/
theorem scale_fin : IsFin scale := scale_eq ▸ .coe _

/-- With finite `X`, `Wq` and `K` every unmasked score is finite. -/
theorem score_fin (hX : ∀ j, IsFin (X j)) (hW : ∀ j, IsFin (Wq j)) (hK : ∀ j, IsFin (K j)) {j : Fin 2048} (hj : j.val / 64 ≤ i.val / 64) :
    IsFin (score X Wq K b h i j) := by
  unfold score
  rw [if_pos hj]
  exact (IsFin.sum _ fun d _ => (IsFin.sum _ fun k _ => (hX _).mul (hW _)).mul (hK _)).mul scale_fin

/-- Masked columns are at `−∞`, and only they. -/
theorem score_eq_bot {j : Fin 2048} (hj : ¬ j.val / 64 ≤ i.val / 64) : score X Wq K b h i j = ⊥ := if_neg hj

/-- No score is +∞ when queries' and keys' inputs are finite: it is finite, or −∞ where masked. -/
theorem score_ne_top (hX : ∀ j, IsFin (X j)) (hW : ∀ j, IsFin (Wq j)) (hK : ∀ j, IsFin (K j)) (j : Fin 2048) : score X Wq K b h i j ≠ ⊤ := by
  by_cases hj : j.val / 64 ≤ i.val / 64
  · exact (score_fin X Wq K b h i hX hW hK hj).1
  · rw [score_eq_bot X Wq K b h i hj]; exact bot_ne_top

/-- A row's own column is never masked. -/
theorem score_self_ne_bot (hX : ∀ j, IsFin (X j)) (hW : ∀ j, IsFin (Wq j)) (hK : ∀ j, IsFin (K j)) : score X Wq K b h i i ≠ ⊥ :=
  (score_fin X Wq K b h i hX hW hK le_rfl).2

/-- The sum over all 256 columns, head by head. -/
theorem sum_cols (f : Fin 256 → EReal) : (∑ y, f y) = ∑ h : Fin 4, ∑ d : Fin 64, f (col h d) := by
  rw [← (finProdFinEquiv (m := 4) (n := 64)).sum_comp f, Fintype.sum_prod_type]
  refine Finset.sum_congr rfl fun h _ => Finset.sum_congr rfl fun d _ => congrArg f (Fin.ext ?_)
  show d.val + 64 * h.val = h.val * 64 + d.val
  omega

end Problem

end Cert.Attention
-- ==== Proof.Head.lean ====
/-
# One head of the attention on one device

The kernel computes eight heads, four per batch, and its text is cut into pieces that fall on different places in each.
Here the head is written down once.
-/
module

public import proofs.«01_k».proof.Proof.Launch
public import Idealize.ShloMosaic.Lib.Pointwise
public import proofs.«01_k».proof.Proof.Spec

@[expose] public section

noncomputable section

namespace Cert.KernelIdealProof

open Cert.KernelIdeal Cert.KernelIdeal.Gen
open Idealize.ShloMosaic Idealize.ShloMosaic.TcCoe

/-- The scaled and masked scores of a head: `q` against the keys of all slots. -/
def scoreV (mask : IVec S128x2048 1) (q : FVec Ideal S128x64 .bf16) (k : Vec Ideal S16x1x1x128x1x64 .bf16) : FVec Ideal S128x2048 .f32 :=
  select mask
    (mulf (matmul dot_S128x64_S2048x64_S128x2048_1_1_0_0_n_n none q
        (shapeCast S2048x64 (shapeCast S16x128x64 k shapeCasts_S16x1x1x128x1x64_S16x128x64) shapeCasts_S16x128x64_S2048x64 : FVec Ideal S2048x64 .bf16)
        (constant S128x2048 .f32 0x00000000#32))
      (broadcast S128x2048 (Scalar.ofBits .f32 0x3E000000#32 : Ideal .f32)))
    (broadcast S128x2048 (Named.named κ "mask" 0xCE6E6B28#32 : Ideal .f32))

/-- The exponentials of the scores below their row's maximum. -/
def expV (s : FVec Ideal S128x2048 .f32) : FVec Ideal S128x2048 .f32 :=
  exp (subf s (broadcastTo S128x2048
    (shapeCast S128x1 (multiReduction .maximumf [1] S128 s 0xFF800000#32 reduces_S128x2048_S128 (.inl rfl) rfl) shapeCasts_S128_S128x1)
    broadcasts_S128x1_S128x2048))

/-- The softmax of the scores along their rows. -/
def weightV (s : FVec Ideal S128x2048 .f32) : FVec Ideal S128x2048 .f32 :=
  divf (expV s) (broadcastTo S128x2048
    (shapeCast S128x1 (multiReduction .add [1] S128 (expV s) 0x00000000#32 reduces_S128x2048_S128 (.inl rfl) rfl) shapeCasts_S128_S128x1)
    broadcasts_S128x1_S128x2048)

/-- The weighted values of a head through its rows of the output weights. -/
def headV (w : FVec Ideal S128x2048 .f32) (v : Vec Ideal S16x1x1x128x1x64 .bf16) (wo : Vec Ideal S64x512 .bf16) : FVec Ideal S128x512 .f32 :=
  matmul dot_S128x64_S64x512_S128x512_1_0_0_1_n_n none
    (truncf .bf16 (matmul dot_S128x2048_S2048x64_S128x64_1_0_0_1_n_n none (truncf .bf16 w bitsLt_bf16_f32)
      (shapeCast S2048x64 (shapeCast S16x128x64 v shapeCasts_S16x1x1x128x1x64_S16x128x64) shapeCasts_S16x128x64_S2048x64 : FVec Ideal S2048x64 .bf16)
      (constant S128x64 .f32 0x00000000#32)) bitsLt_bf16_f32)
    (shapeCast S64x512 wo shapeCasts_S64x512_S64x512 : FVec Ideal S64x512 .bf16) (constant S128x512 .f32 0x00000000#32)

open Cert.Attention

/-- The named filler of the masked scores is `−∞`. -/
theorem fill_eq : (Named.named κ "mask" 0xCE6E6B28#32 : Ideal .f32) = (⊥ : EReal) := rfl

/-- The word the kernel starts its maximum from is `−∞`. -/
theorem bits_bot : Ideal.ofBits .f32 0xFF800000#32 = (⊥ : EReal) := by
  simp [Ideal.ofBits, Ideal.ieee]

/-- A score at a row and a column: the products of the query with the key of the column's slot and place in it, scaled, or
    `−∞` under the mask. -/
theorem scoreV_apply (mask : IVec S128x2048 1) (q : FVec Ideal S128x64 .bf16) (k : Vec Ideal S16x1x1x128x1x64 .bf16) (r : Fin 128) (j : Fin 2048) :
    scoreV mask q k (ix2 r j) = Scalar.select (mask (ix2 r j))
      ((∑ d : Fin 64, (q (ix2 r d) : EReal) * (k (ix6 ⟨j.val / 128, by omega⟩ 0 0 ⟨j.val % 128, by omega⟩ 0 d) : EReal)) * scale) (⊥ : EReal) := by
  pointwise [scoreV]
  rw [fill_eq]
  rfl

/-- An exponential at a row and a column. -/
theorem expV_apply (s : FVec Ideal S128x2048 .f32) (r : Fin 128) (j : Fin 2048) :
    expV s (ix2 r j) = Ideal.exp ((s (ix2 r j) : EReal) - top fun y => (s (ix2 r y) : EReal)) := by
  pointwise [expV]
  rw [bits_bot]
  rfl

/-- The weights are the softmax of the scores. -/
theorem weightV_apply (s : FVec Ideal S128x2048 .f32) (r : Fin 128) (j : Fin 2048) :
    weightV s (ix2 r j) = weight (fun y => (s (ix2 r y) : EReal)) j := by
  pointwise [weightV]
  simp only [expV_apply]
  rfl

/-- The values of a head weighted, through the output weights. -/
theorem headV_apply (w : FVec Ideal S128x2048 .f32) (v : Vec Ideal S16x1x1x128x1x64 .bf16) (wo : Vec Ideal S64x512 .bf16) (r : Fin 128) (n : Fin 512) :
    headV w v wo (ix2 r n) = ∑ d : Fin 64, (∑ j : Fin 2048, (w (ix2 r j) : EReal) * (v (ix6 ⟨j.val / 128, by omega⟩ 0 0 ⟨j.val % 128, by omega⟩ 0 d) : EReal)) * (wo (ix2 d n) : EReal) := by
  pointwise [headV]

/-- The queries of batch 0. -/
theorem pay11_apply (x : Vec Ideal S1x128x512 .bf16) (wq : Vec Ideal S512x256 .bf16) (r : Fin 128) (n : Fin 256) :
    k0_pay11 wq x (ix2 r n) = ∑ y : Fin 512, (x (ix3 0 r y) : EReal) * (wq (ix2 y n) : EReal) := by
  pointwise [k0_pay11, k0_pay10]

/-- The queries of batch 1. -/
theorem pay20_apply (x : Vec Ideal S1x128x512 .bf16) (wq : Vec Ideal S512x256 .bf16) (r : Fin 128) (n : Fin 256) :
    k0_pay20 (k0_pay10 wq) x (ix2 r n) = ∑ y : Fin 512, (x (ix3 0 r y) : EReal) * (wq (ix2 y n) : EReal) := by
  pointwise [k0_pay20, k0_pay10]

/-! ## The mask -/

/-- Twice a device's position as a word. -/
theorem two_pos (c : Dev nD) : Scalar.muli (2#32) (posW c) = BitVec.ofNat 32 (2 * c.val) := by
  revert c
  decide +kernel

/-- The block number of a column, as the kernel spells division rounded down. -/
theorem colBlock (j : Fin 2048) : (Scalar.select
        (IntOp.andi
          (IntOp.cmpi .ne
            (IntOp.subi (BitVec.setWidth 32 (IntOp.cmpi .sgt (BitVec.ofNat 32 j.val) 0#32))
              (BitVec.setWidth 32 (IntOp.cmpi .slt (BitVec.ofNat 32 j.val) 0#32)))
            (Scalar.subi (Scalar.extui (Scalar.cmpi .sgt 64#32 0#32))
              (Scalar.extui (Scalar.cmpi .slt 64#32 0#32))))
          (IntOp.cmpi .ne (IntOp.remsi .vector (BitVec.ofNat 32 j.val) 64#32) 0#32))
        (IntOp.subi (IntOp.divsi .vector (BitVec.ofNat 32 j.val) 64#32) 1#32)
        (IntOp.divsi .vector (BitVec.ofNat 32 j.val) 64#32)) = BitVec.ofNat 32 (j.val / 64) := by
  revert j
  decide +kernel

/-- A sum of a device's and a row's part compared with a block number, as numbers. -/
theorem sle_sum : ∀ (a b : Fin 64), IntOp.cmpi .sle (BitVec.ofNat 32 a.val) (BitVec.ofNat 32 b.val) = if a.val ≤ b.val then 1#1 else 0#1 := by
  decide +kernel

/-- The mask keeps the columns whose block is not after the row's, the rows counted along the whole array. -/
theorem maskV_apply (c : Dev nD) (r : Fin 128) (j : Fin 2048) :
    maskV c (ix2 r j) = if j.val / 64 ≤ (128 * c.val + r.val) / 64 then 1#1 else 0#1 := by
  have hc : c.val < 16 := c.isLt
  pointwise [maskV, k0_pay9, k0_pay5, k0_pay6, k0_pay7, k0_pay8, colsV]
  rw [colBlock j, colBlock ⟨r.val, by omega⟩, two_pos]
  have e : IntOp.addi (BitVec.ofNat 32 (2 * c.val)) (BitVec.ofNat 32 (r.val / 64)) = BitVec.ofNat 32 ((128 * c.val + r.val) / 64) := by
    show BitVec.ofNat 32 _ + BitVec.ofNat 32 _ = _
    rw [← BitVec.ofNat_add]
    congr 1
    omega
  rw [e]
  exact sle_sum ⟨j.val / 64, by omega⟩ ⟨(128 * c.val + r.val) / 64, by omega⟩

/-! ## The blocks of the result -/

/-- The queries of one head. -/
def sliceV (q : FVec Ideal S128x256 .f32) : Fin 4 → FVec Ideal S128x64 .bf16
  | 0 => truncf .bf16 (extractStridedSlice S128x64 ![0, 0] q slices_S128x256_o0_0_S128x64 : FVec Ideal S128x64 .f32) bitsLt_bf16_f32
  | 1 => truncf .bf16 (extractStridedSlice S128x64 ![0, 64] q slices_S128x256_o0_64_S128x64 : FVec Ideal S128x64 .f32) bitsLt_bf16_f32
  | 2 => truncf .bf16 (extractStridedSlice S128x64 ![0, 128] q slices_S128x256_o0_128_S128x64 : FVec Ideal S128x64 .f32) bitsLt_bf16_f32
  | 3 => truncf .bf16 (extractStridedSlice S128x64 ![0, 192] q slices_S128x256_o0_192_S128x64 : FVec Ideal S128x64 .f32) bitsLt_bf16_f32

/-- Head `h`'s columns of the queries, at an index. -/
theorem sliceV_apply (q : FVec Ideal S128x256 .f32) (h : Fin 4) (r : Fin 128) (d : Fin 64) : sliceV q h (ix2 r d) = q (ix2 r (col h d)) := by
  fin_cases h
  · show (truncf .bf16 (extractStridedSlice S128x64 ![0, 0] q slices_S128x256_o0_0_S128x64 : FVec Ideal S128x64 .f32) bitsLt_bf16_f32) (ix2 r d) = _
    pointwise []
    exact congrArg (fun y => q (ix2 r y)) (Fin.ext (by simp [col]))
  · show (truncf .bf16 (extractStridedSlice S128x64 ![0, 64] q slices_S128x256_o0_64_S128x64 : FVec Ideal S128x64 .f32) bitsLt_bf16_f32) (ix2 r d) = _
    pointwise []
    exact congrArg (fun y => q (ix2 r y)) (Fin.ext (by simp [col]))
  · show (truncf .bf16 (extractStridedSlice S128x64 ![0, 128] q slices_S128x256_o0_128_S128x64 : FVec Ideal S128x64 .f32) bitsLt_bf16_f32) (ix2 r d) = _
    pointwise []
    exact congrArg (fun y => q (ix2 r y)) (Fin.ext (by simp [col]))
  · show (truncf .bf16 (extractStridedSlice S128x64 ![0, 192] q slices_S128x256_o0_192_S128x64 : FVec Ideal S128x64 .f32) bitsLt_bf16_f32) (ix2 r d) = _
    pointwise []
    exact congrArg (fun y => q (ix2 r y)) (Fin.ext (by simp [col]))

/-- The zeros the sum over the heads starts from. -/
def zeroV : FVec Ideal S128x512 .f32 := broadcast S128x512 (Scalar.ofBits .f32 0x00000000#32 : Ideal .f32)

/-- The sum over the four heads, as a block of the result. -/
def blockV (mask : IVec S128x2048 1) (q : FVec Ideal S128x256 .f32) (k v : Fin 4 → Vec Ideal S16x1x1x128x1x64 .bf16)
    (wo : Fin 4 → Vec Ideal S64x512 .bf16) : Vec Ideal S1x128x512 .f32 :=
  shapeCast S1x128x512 (addf (addf (addf (addf zeroV
      (headV (weightV (scoreV mask (sliceV q 0) (k 0))) (v 0) (wo 0)))
      (headV (weightV (scoreV mask (sliceV q 1) (k 1))) (v 1) (wo 1)))
      (headV (weightV (scoreV mask (sliceV q 2) (k 2))) (v 2) (wo 2)))
      (headV (weightV (scoreV mask (sliceV q 3) (k 3))) (v 3) (wo 3)))
    shapeCasts_S128x512_S1x128x512

section Blocks

variable (x : (cc0_stg0_0 : Ref sig .tc).ty.Contents (Elt Ideal)) (wq : (cc0_stg1_0 : Ref sig .tc).ty.Contents (Elt Ideal))
  (wo : (cc0_stg4_0 : Ref sig .tc).ty.Contents (Elt Ideal)) (kv : KVBuf Ideal) (c : Dev nD)

/-- The kernel's text of batch 0 is that sum, -/
theorem blk0_eq : blk0 x wq wo kv c = blockV (maskV c) (k0_pay11 wq (xLd x 0)) (kvLd kv 0 0) (kvLd kv 1 0) (woLd wo) := rfl

/-- and so is its text of batch 1. -/
theorem blk1_eq : blk1 x wq wo kv c = blockV (maskV c) (k0_pay20 (k0_pay10 wq) (xLd x 1)) (kvLd kv 0 1) (kvLd kv 1 1) (woLd wo) := rfl

end Blocks

/-- Such a block at an index. -/
theorem blockV_apply (mask : IVec S128x2048 1) (q : FVec Ideal S128x256 .f32) (k v : Fin 4 → Vec Ideal S16x1x1x128x1x64 .bf16)
    (wo : Fin 4 → Vec Ideal S64x512 .bf16) (r : Fin 128) (n : Fin 512) :
    blockV mask q k v wo (ix3 0 r n) = ∑ h : Fin 4, (headV (weightV (scoreV mask (sliceV q h) (k h))) (v h) (wo h) (ix2 r n) : EReal) := by
  pointwise [blockV, zeroV]
  rw [Fin.sum_univ_four]

end Cert.KernelIdealProof
-- ==== Proof.Loads.lean ====
/-
# What the kernel reads

Every load, and every staged argument, as elements of the launched arrays.
-/
module

public import proofs.«01_k».proof.Proof.Head
public import Idealize.ShloMosaic.Lib.Pipeline.ValueKit

@[expose] public section

noncomputable section

namespace Cert.KernelIdealProof

open Cert.KernelIdeal Cert.KernelIdeal.Gen
open Idealize.ShloMosaic Idealize.ShloMosaic.TcCoe
open Cert.Attention (col)

section Loads

variable (x : (cc0_stg0_0 : Ref sig .tc).ty.Contents (Elt Ideal))
  (wo : (cc0_stg4_0 : Ref sig .tc).ty.Contents (Elt Ideal)) (kv : KVBuf Ideal)

/-- A row of a batch of the input. -/
theorem xLd_apply (b : Fin 2) (r : Fin 128) (k : Fin 512) : xLd x b (ix3 0 r k) = x (ix3 b r k) := by
  unfold xLd
  rw [View.readAt_apply]
  show x ((blockR b).emb (ix3 0 r k)) = _
  refine congrArg x (funext fun a => Fin.ext ?_)
  rw [Rect.emb_apply]
  fin_cases a
  · show b.val + 1 * 0 = b.val; omega
  · show 0 + 1 * r.val = r.val; omega
  · show 0 + 1 * k.val = k.val; omega

/-- A head's row of the output weights. -/
theorem woLd_apply (h : Fin 4) (d : Fin 64) (n : Fin 512) : woLd wo h (ix2 d n) = wo (ix2 (col h d) n) := by
  unfold woLd
  rw [View.readAt_apply]
  show wo ((rowsR h).emb (ix2 d n)) = _
  refine congrArg wo (funext fun a => Fin.ext ?_)
  rw [Rect.emb_apply]
  fin_cases a
  · show 64 * h.val + 1 * d.val = h.val * 64 + d.val; omega
  · show 0 + 1 * n.val = n.val; omega

/-- A head's row of a slot. -/
theorem kvLd_apply (p b : Fin 2) (h : Fin 4) (s : Fin 16) (r : Fin 128) (d : Fin 64) :
    kvLd kv p b h (ix6 s 0 0 r 0 d) = kv (ix6 s p b r h d) := by
  unfold kvLd
  rw [View.readAt_apply]
  show kv ((headR p b h).emb (ix6 s 0 0 r 0 d)) = _
  refine congrArg kv (funext fun a => Fin.ext ?_)
  rw [Rect.emb_apply]
  fin_cases a
  · show 0 + 1 * s.val = s.val; omega
  · show p.val + 1 * 0 = p.val; omega
  · show b.val + 1 * 0 = b.val; omega
  · show 0 + 1 * r.val = r.val; omega
  · show h.val + 1 * 0 = h.val; omega
  · show 0 + 1 * d.val = d.val; omega

end Loads

variable (m : (ℓ : Loc nD τ sig) → Buf (Elt Ideal) ℓ) (ρ : Dev nD → PrngReg) (c : Dev nD)

/-- The staged input is the launched array: the pipeline's one block is all of it. -/
theorem xstg_eq : xstg m ρ c = m ((c : Thread nD τ).loc main_arg0) :=
  Memref.read_access_unit_zero (Elt Ideal) main_arg0
    (show (fun a => (win0_0.index (0 : Fin 1)) a * main_arg0.ty.shape.size a) = fun _ => 0 from
      funext fun a => by fin_cases a <;> decide) (fun a => by fin_cases a <;> decide) _

/-- So are the staged query weights, -/
theorem wqstg_eq : wqstg m ρ c = m ((c : Thread nD τ).loc main_arg1) :=
  Memref.read_access_unit_zero (Elt Ideal) main_arg1
    (show (fun a => (win0_1.index (0 : Fin 1)) a * main_arg1.ty.shape.size a) = fun _ => 0 from
      funext fun a => by fin_cases a <;> decide) (fun a => by fin_cases a <;> decide) _

/-- keys, -/
theorem kstg_eq : kstg m ρ c = m ((c : Thread nD τ).loc main_arg2) :=
  Memref.read_access_unit_zero (Elt Ideal) main_arg2
    (show (fun a => (win0_2.index (0 : Fin 1)) a * main_arg2.ty.shape.size a) = fun _ => 0 from
      funext fun a => by fin_cases a <;> decide) (fun a => by fin_cases a <;> decide) _

/-- values -/
theorem vstg_eq : vstg m ρ c = m ((c : Thread nD τ).loc main_arg3) :=
  Memref.read_access_unit_zero (Elt Ideal) main_arg3
    (show (fun a => (win0_3.index (0 : Fin 1)) a * main_arg3.ty.shape.size a) = fun _ => 0 from
      funext fun a => by fin_cases a <;> decide) (fun a => by fin_cases a <;> decide) _

/-- and output weights. -/
theorem wostg_eq : wostg m ρ c = m ((c : Thread nD τ).loc main_arg4) :=
  Memref.read_access_unit_zero (Elt Ideal) main_arg4
    (show (fun a => (win0_4.index (0 : Fin 1)) a * main_arg4.ty.shape.size a) = fun _ => 0 from
      funext fun a => by fin_cases a <;> decide) (fun a => by fin_cases a <;> decide) _

/-- What the zeros, the keys and the values are stored as. -/
theorem pay3_apply (k : FVec Ideal S2x128x4x64 .bf16) (b : Fin 2) (r : Fin 128) (h : Fin 4) (d : Fin 64) :
    k0_pay3 k (ix6 0 0 b r h d) = k (ix4 b r h d) := by
  pointwise [k0_pay3]

/-- What is stored into the value half of a slot: the values, with two dimensions of size one in front. -/
theorem pay4_apply (k : FVec Ideal S2x128x4x64 .bf16) (b : Fin 2) (r : Fin 128) (h : Fin 4) (d : Fin 64) :
    k0_pay4 k (ix6 0 0 b r h d) = k (ix4 b r h d) := by
  pointwise [k0_pay4]

/-- Slot `c` of the keys after both stores: the device's own keys, -/
theorem kv2_key (b : Fin 2) (r : Fin 128) (h : Fin 4) (d : Fin 64) :
    kv2 m ρ c (ix6 c 0 b r h d) = kstg m ρ c (ix4 b r h d) := by
  have h1 : ix6 c 0 b r h d ∉ (kvM.access (valR c)).setOn Finset.univ := by
    intro hi
    have hs : ix6 c 0 b r h d ∈ (kvM.access (valR c)).set := hi
    rw [show (kvM.access (valR c)).set = (valR c).set from View.set_slice_whole _ _] at hs
    have h0 := (Rect.mem_set_unit.mp hs) 1
    rw [k0_off2_eq] at h0
    have : 1 ≤ 0 ∧ 0 < 1 + 1 := h0
    omega
  have h2 : (kvM.access (keyR c)).emb (ix6 0 0 b r h d) = ix6 c 0 b r h d := by
    show (keyR c).emb (ix6 0 0 b r h d) = _
    funext a
    apply Fin.ext
    rw [Rect.emb_apply]
    show k0_off1 c a + _ = _
    rw [k0_off1_eq]
    fin_cases a
    · show c.val + 1 * 0 = c.val; omega
    · show 0 + 1 * 0 = 0; omega
    · show 0 + 1 * b.val = b.val; omega
    · show 0 + 1 * r.val = r.val; omega
    · show 0 + 1 * h.val = h.val; omega
    · show 0 + 1 * d.val = d.val; omega
  unfold kv2 kv1
  rw [View.write_of_not_mem _ _ _ h1]
  have hw := View.write_emb (Val := Elt Ideal) (v := kvM.access (keyR c)) kv0 (k0_pay3 (kstg m ρ c)) Finset.univ (ix6 0 0 b r h d)
  rw [h2, if_pos (Finset.mem_univ _)] at hw
  refine hw.trans ?_
  exact pay3_apply (kstg m ρ c) b r h d

/-- and of the values its own values. -/
theorem kv2_val (b : Fin 2) (r : Fin 128) (h : Fin 4) (d : Fin 64) :
    kv2 m ρ c (ix6 c 1 b r h d) = vstg m ρ c (ix4 b r h d) := by
  have h2 : (kvM.access (valR c)).emb (ix6 0 0 b r h d) = ix6 c 1 b r h d := by
    show (valR c).emb (ix6 0 0 b r h d) = _
    funext a
    apply Fin.ext
    rw [Rect.emb_apply]
    show k0_off2 c a + _ = _
    rw [k0_off2_eq]
    fin_cases a
    · show c.val + 1 * 0 = c.val; omega
    · show 1 + 1 * 0 = 1; omega
    · show 0 + 1 * b.val = b.val; omega
    · show 0 + 1 * r.val = r.val; omega
    · show 0 + 1 * h.val = h.val; omega
    · show 0 + 1 * d.val = d.val; omega
  unfold kv2
  have hw := View.write_emb (Val := Elt Ideal) (v := kvM.access (valR c)) (kv1 m ρ c) (k0_pay4 (vstg m ρ c)) Finset.univ (ix6 0 0 b r h d)
  rw [h2, if_pos (Finset.mem_univ _)] at hw
  refine hw.trans ?_
  exact pay4_apply (vstg m ρ c) b r h d

/-- After the exchange a slot up to the device's own holds its device's keys -/
theorem kvFin_key (s : Dev nD) (hs : s.val ≤ c.val) (b : Fin 2) (r : Fin 128) (h : Fin 4) (d : Fin 64) :
    kvFin m ρ c (ix6 s 0 b r h d) = kstg m ρ s (ix4 b r h d) :=
  (if_pos hs : kvFin m ρ c (ix6 s 0 b r h d) = kvAll m ρ (ix6 s 0 b r h d)).trans (kv2_key m ρ s b r h d)

/-- and values. -/
theorem kvFin_val (s : Dev nD) (hs : s.val ≤ c.val) (b : Fin 2) (r : Fin 128) (h : Fin 4) (d : Fin 64) :
    kvFin m ρ c (ix6 s 1 b r h d) = vstg m ρ s (ix4 b r h d) :=
  (if_pos hs : kvFin m ρ c (ix6 s 1 b r h d) = kvAll m ρ (ix6 s 1 b r h d)).trans (kv2_val m ρ s b r h d)

end Cert.KernelIdealProof
-- ==== Proof.KernelValue.lean ====
/-
# What the kernel computes

With each device's arguments its part of whole arrays, and `X`, `Wq` and `K` finite, a device ends with its rows of the
result of the problem.
-/
module

public import proofs.«01_k».proof.Proof.Loads
public import Idealize.ShloMosaic.Lib.LayoutAt

@[expose] public section

noncomputable section

namespace Cert.KernelIdealProof

open Cert.KernelIdeal Cert.KernelIdeal.Gen
open Idealize.ShloMosaic Idealize.ShloMosaic.TcCoe
open Cert.Attention

/-- The place in the whole array of row `r` of device `c`. -/
def rowOf (c : Dev nD) (r : Fin 128) : Fin 2048 := ⟨c.val * 128 + r.val, by have : c.val < 16 := c.isLt; omega⟩

section Value

variable (X : FVec Ideal ⟨3, ![2, 2048, 512]⟩ .bf16) (Wq : FVec Ideal ⟨2, ![512, 256]⟩ .bf16) (K V : FVec Ideal ⟨4, ![2, 2048, 4, 64]⟩ .bf16)
  (Wo : FVec Ideal ⟨2, ![256, 512]⟩ .bf16) (c : Dev nD) (b : Fin 2) (h : Fin 4) (r : Fin 128)

/-- The kernel's scores of a row are the problem's: a column that is not masked has its key's slot filled. -/
theorem score_eq {q : FVec Ideal S128x64 .bf16} {k : Vec Ideal S16x1x1x128x1x64 .bf16}
    (hq : ∀ d, q (ix2 r d) = query X Wq b h (rowOf c r) d)
    (hk : ∀ (s : Dev nD) (_ : s.val ≤ c.val) (y : Fin 128) (d : Fin 64), k (ix6 s 0 0 y 0 d) = K (ix4 b (rowOf s y) h d)) (j : Fin 2048) :
    scoreV (maskV c) q k (ix2 r j) = score X Wq K b h (rowOf c r) j := by
  have hc : c.val < 16 := c.isLt
  rw [scoreV_apply, maskV_apply]
  unfold score
  have e : (rowOf c r).val = 128 * c.val + r.val := by show c.val * 128 + r.val = _; omega
  rw [e]
  by_cases hj : j.val / 64 ≤ (128 * c.val + r.val) / 64
  · rw [if_pos hj, if_pos hj]
    refine congrArg (fun y : EReal => y * scale) (Finset.sum_congr rfl fun d _ => ?_)
    have ej : rowOf (⟨j.val / 128, by have := j.isLt; show _ < 16; omega⟩ : Dev nD) ⟨j.val % 128, by omega⟩ = j := Fin.ext (by show j.val / 128 * 128 + j.val % 128 = j.val; omega)
    have hk' := hk ⟨j.val / 128, by have := j.isLt; show _ < 16; omega⟩ (by show j.val / 128 ≤ c.val; omega) ⟨j.val % 128, by omega⟩ d
    rw [ej] at hk'
    exact congrArg₂ (fun y z : EReal => y * z) (hq d) hk'
  · rw [if_neg hj, if_neg hj]
    rfl

/-- So a head's part is the problem's: the values it weighs by something other than zero are in filled slots. -/
theorem head_eq (hX : ∀ j, IsFin (X j)) (hW : ∀ j, IsFin (Wq j)) (hK : ∀ j, IsFin (K j))
    {q : FVec Ideal S128x64 .bf16} {k v : Vec Ideal S16x1x1x128x1x64 .bf16} {wo : Vec Ideal S64x512 .bf16}
    (hq : ∀ d, q (ix2 r d) = query X Wq b h (rowOf c r) d)
    (hk : ∀ (s : Dev nD) (_ : s.val ≤ c.val) (y : Fin 128) (d : Fin 64), k (ix6 s 0 0 y 0 d) = K (ix4 b (rowOf s y) h d))
    (hv : ∀ (s : Dev nD) (_ : s.val ≤ c.val) (y : Fin 128) (d : Fin 64), v (ix6 s 0 0 y 0 d) = V (ix4 b (rowOf s y) h d))
    (hwo : ∀ d n, wo (ix2 d n) = Wo (ix2 (col h d) n)) (n : Fin 512) :
    headV (weightV (scoreV (maskV c) q k)) v wo (ix2 r n) = contribution X Wq K V Wo b h (rowOf c r) n := by
  have hc : c.val < 16 := c.isLt
  rw [headV_apply]
  simp only [weightV_apply, score_eq X Wq K c b h r hq hk]
  unfold contribution
  refine Finset.sum_congr rfl fun d _ => ?_
  refine congrArg₂ (fun y z : EReal => y * z) ?_ (hwo d n)
  unfold attended
  refine mix_congr (score X Wq K b h (rowOf c r)) (score_ne_top X Wq K b h (rowOf c r) hX hW hK)
    (score_self_ne_bot X Wq K b h (rowOf c r) hX hW hK) _ _ fun j hj => ?_
  have e : (rowOf c r).val = 128 * c.val + r.val := by show c.val * 128 + r.val = _; omega
  have hm : j.val / 64 ≤ (128 * c.val + r.val) / 64 := by
    rw [← e]
    by_contra hn
    exact hj (score_eq_bot X Wq K b h (rowOf c r) hn)
  have ej : rowOf (⟨j.val / 128, by have := j.isLt; show _ < 16; omega⟩ : Dev nD) ⟨j.val % 128, by omega⟩ = j := Fin.ext (by show j.val / 128 * 128 + j.val % 128 = j.val; omega)
  have hv' := hv ⟨j.val / 128, by have := j.isLt; show _ < 16; omega⟩ (by show j.val / 128 ≤ c.val; omega) ⟨j.val % 128, by omega⟩ d
  rw [ej] at hv'
  exact hv'

end Value

section Device

variable (m : (ℓ : Loc nD τ sig) → Buf (Elt Ideal) ℓ) (ρ : Dev nD → PrngReg)
variable (X : FVec Ideal ⟨3, ![2, 2048, 512]⟩ .bf16) (Wq : FVec Ideal ⟨2, ![512, 256]⟩ .bf16) (K V : FVec Ideal ⟨4, ![2, 2048, 4, 64]⟩ .bf16)
  (Wo : FVec Ideal ⟨2, ![256, 512]⟩ .bf16)

/-- Each device's arguments are its part of whole arrays. -/
structure Parts : Prop where
  x : ∀ c : Dev nD, m ((c.tc : Thread nD τ).loc main_arg0) = Layout.block ⟨3, ![2, 128, 512]⟩ ⟨3, ![2, 2048, 512]⟩ 1 16 c X
  wq : ∀ c : Dev nD, m ((c.tc : Thread nD τ).loc main_arg1) = Wq
  k : ∀ c : Dev nD, m ((c.tc : Thread nD τ).loc main_arg2) = Layout.block ⟨4, ![2, 128, 4, 64]⟩ ⟨4, ![2, 2048, 4, 64]⟩ 1 16 c K
  v : ∀ c : Dev nD, m ((c.tc : Thread nD τ).loc main_arg3) = Layout.block ⟨4, ![2, 128, 4, 64]⟩ ⟨4, ![2, 2048, 4, 64]⟩ 1 16 c V
  wo : ∀ c : Dev nD, m ((c.tc : Thread nD τ).loc main_arg4) = Wo

/-- A block of a three-axis array cut along its rows. -/
theorem block3 (A : FVec Ideal ⟨3, ![2, 2048, 512]⟩ .bf16) (c : Dev nD) (b : Fin 2) (r : Fin 128) (n : Fin 512) :
    (Layout.block ⟨3, ![2, 128, 512]⟩ ⟨3, ![2, 2048, 512]⟩ 1 16 c A : FVec Ideal ⟨3, ![2, 128, 512]⟩ .bf16) (ix3 b r n) = A (ix3 b (rowOf c r) n) := by
  shard_norm
  refine congrArg A (funext fun a => Fin.ext ?_)
  fin_cases a
  all_goals rfl

/-- A block of a four-axis array cut along its rows. -/
theorem block4 (A : FVec Ideal ⟨4, ![2, 2048, 4, 64]⟩ .bf16) (c : Dev nD) (b : Fin 2) (r : Fin 128) (h : Fin 4) (d : Fin 64) :
    (Layout.block ⟨4, ![2, 128, 4, 64]⟩ ⟨4, ![2, 2048, 4, 64]⟩ 1 16 c A : FVec Ideal ⟨4, ![2, 128, 4, 64]⟩ .bf16) (ix4 b r h d) = A (ix4 b (rowOf c r) h d) := by
  shard_norm
  refine congrArg A (funext fun a => Fin.ext ?_)
  fin_cases a
  all_goals rfl

variable {m X Wq K V Wo}

/-- A batch of the result on one device. -/
theorem blockV_eq (hp : Parts m X Wq K V Wo) (hX : ∀ j, IsFin (X j)) (hW : ∀ j, IsFin (Wq j)) (hK : ∀ j, IsFin (K j))
    (c : Dev nD) (b : Fin 2) (r : Fin 128) (n : Fin 512) {q : FVec Ideal S128x256 .f32}
    (hq : ∀ y, q (ix2 r y) = ∑ k : Fin 512, (X (ix3 b (rowOf c r) k) : EReal) * (Wq (ix2 k y) : EReal)) :
    blockV (maskV c) q (kvLd (kvFin m ρ c) 0 b) (kvLd (kvFin m ρ c) 1 b) (woLd (wostg m ρ c)) (ix3 0 r n)
      = result X Wq K V Wo b (rowOf c r) n := by
  rw [blockV_apply]
  unfold result
  refine Finset.sum_congr rfl fun h _ => head_eq X Wq K V Wo c b h r hX hW hK ?_ ?_ ?_ ?_ n
  · intro d
    rw [sliceV_apply, hq]
    rfl
  · intro s hs y d
    rw [kvLd_apply, kvFin_key m ρ c s hs, kstg_eq]
    exact (congrFun (hp.k s) _).trans (block4 K s b y h d)
  · intro s hs y d
    rw [kvLd_apply, kvFin_val m ρ c s hs, vstg_eq]
    exact (congrFun (hp.v s) _).trans (block4 V s b y h d)
  · intro d n
    rw [woLd_apply, wostg_eq]
    exact congrFun (hp.wo c) _

/-- What a device ends with: its rows of the result. -/
theorem outAt_eq (hp : Parts m X Wq K V Wo) (hX : ∀ j, IsFin (X j)) (hW : ∀ j, IsFin (Wq j)) (hK : ∀ j, IsFin (K j))
    (c : Dev nD) (b : Fin 2) (r : Fin 128) (n : Fin 512) :
    outAt m ρ c (ix3 b r n) = result X Wq K V Wo b (rowOf c r) n := by
  have hin : inBlock (ix3 b r n) = ix3 0 r n := by
    funext a
    fin_cases a <;> rfl
  have hx : ∀ k, xLd (xstg m ρ c) b (ix3 0 r k) = X (ix3 b (rowOf c r) k) := fun k => by
    rw [xLd_apply, xstg_eq]
    exact (congrFun (hp.x c) _).trans (block3 X c b r k)
  have hw : ∀ k y, wqstg m ρ c (ix2 k y) = Wq (ix2 k y) := fun k y => by
    rw [wqstg_eq]
    exact congrFun (hp.wq c) _
  unfold outAt outOf
  rw [hin]
  by_cases hb : b = 0
  · subst hb
    refine (if_pos rfl).trans ?_
    rw [blk0_eq]
    refine blockV_eq ρ hp hX hW hK c 0 r n fun y => ?_
    rw [pay11_apply]
    exact Finset.sum_congr rfl fun k _ => congrArg₂ (fun y z : EReal => y * z) (hx k) (hw k y)
  · have hb1 : b = 1 := by omega
    subst hb1
    refine (if_neg (by show ¬ ((1 : Fin 2).val = 0); decide)).trans ?_
    rw [blk1_eq]
    refine blockV_eq ρ hp hX hW hK c 1 r n fun y => ?_
    rw [pay20_apply]
    exact Finset.sum_congr rfl fun k _ => congrArg₂ (fun y z : EReal => y * z) (hx k) (hw k y)

end Device

/-- The array the pipeline leaves is what the body stored. -/
theorem finalA_out (m : (ℓ : Loc nD τ sig) → Buf (Elt Ideal) ℓ) (ρ : Dev nD → PrngReg) (c : Dev nD) : finalA m ρ c (5 : Fin 6) = outAt m ρ c :=
  (dats m ρ 0 c).arrAt_eq_of_after_last (5 : Fin 6) t0_0 (by decide +kernel) (outAt m ρ c) fun j => rfl

end Cert.KernelIdealProof
-- ==== Proof.RefValue.lean ====
/-
# What the reference computes

The reference's term, stage by stage, read at an index.
-/
module

public import proofs.«01_k».proof.Proof.Gen.ReferenceIdeal.Run
public import proofs.«01_k».proof.Proof.Spec
public import Idealize.ShloMosaic.Lib.IdealHost

@[expose] public section

noncomputable section

namespace Cert.ReferenceValue

open Cert.ReferenceIdeal Cert.ReferenceIdeal.Gen
open Idealize.ShloMosaic Idealize.ShloMosaic.TcCoe

/-- The number of the block of 64 a position lies in: division rounded down. -/
def blockNo : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- Which scores are kept: those whose key's block is not after the query's. -/
def keep : IVec S2048x2048 1 :=
  cmpi .sle (broadcastInDim S2048x2048 ![0, 1] bcast_S1x2048_S2048x2048_0_1 (broadcastInDim S1x2048 ![1] bcast_S2048_S1x2048_1 blockNo))
    (broadcastInDim S2048x2048 ![0, 1] bcast_S2048x1_S2048x2048_0_1 (broadcastInDim S2048x1 ![0] bcast_S2048_S2048x1_0 blockNo))

/-- Which rows keep a score at all. -/
def rowKeep : IVec S2048 1 := Host.reduce IntOp.ori keep (constantI S_ 1 0#1) reducesTo_S2048x2048_S2048_d1 h_S_

section Stages

variable (x : FVec Ideal S2x2048x512 .bf16) (wq : FVec Ideal S512x256 .bf16) (k v : FVec Ideal S2x2048x4x64 .bf16) (wo : FVec Ideal S256x512 .bf16)
  (s w : FVec Ideal S2x4x2048x2048 .f32)

/-- The scaled and masked scores. -/
def scores : FVec Ideal S2x4x2048x2048 .f32 :=
  select (broadcastInDim S2x4x2048x2048 ![0, 1, 2, 3] bcast_S1x1x2048x2048_S2x4x2048x2048_0_1_2_3
      (broadcastInDim S1x1x2048x2048 ![2, 3] bcast_S2048x2048_S1x1x2048x2048_2_3 keep))
    (mulf (Host.dotGeneral dot_S2x2048x4x64_S2x2048x4x64_S2x4x2048x2048_3_3_1_1_02_02 none
        (shapeCast S2x2048x4x64 (Host.dotGeneral dot_S2x2048x512_S512x256_S2x2048x256_2_0_01_1_n_n none (extf .f32 x bitsLt_bf16_f32) (extf .f32 wq bitsLt_bf16_f32) : FVec Ideal S2x2048x256 .f32)
          shapeCasts_S2x2048x256_S2x2048x4x64 : FVec Ideal S2x2048x4x64 .f32)
        (extf .f32 k bitsLt_bf16_f32))
      (broadcastInDim S2x4x2048x2048 ![] bcast_S_S2x4x2048x2048 (constant S_ .f32 0x3E000000#32)))
    (broadcastInDim S2x4x2048x2048 ![] bcast_S_S2x4x2048x2048 (id (constant S_ .f32 0xFF800000#32)))

/-- The largest score of each row. -/
def rowMax : FVec Ideal S2x4x2048 .f32 :=
  Host.reduce FloatOps.maximumf s (constant S_ .f32 0xFF800000#32) reducesTo_S2x4x2048x2048_S2x4x2048_d3 h_S_

/-- The same, at every column of its row. -/
def rowMaxB : FVec Ideal S2x4x2048x2048 .f32 :=
  broadcastInDim S2x4x2048x2048 ![0, 1, 2, 3] bcast_S2x4x2048x1_S2x4x2048x2048_0_1_2_3
    (broadcastInDim S2x4x2048x1 ![0, 1, 2] bcast_S2x4x2048_S2x4x2048x1_0_1_2 (rowMax s))

/-- The exponentials of the scores below their row's maximum. -/
def exps : FVec Ideal S2x4x2048x2048 .f32 :=
  Host.exp (subf s (rowMaxB s))

/-- The sum of each row's exponentials. -/
def rowSum : FVec Ideal S2x4x2048 .f32 :=
  Host.reduceAdd (exps s) (constant S_ .f32 0x00000000#32) reducesTo_S2x4x2048x2048_S2x4x2048_d3 h_S_

/-- What each exponential is divided by: its row's sum, where the row keeps a score. -/
def denom : FVec Ideal S2x4x2048x2048 .f32 :=
  broadcastInDim S2x4x2048x2048 ![0, 1, 2, 3] bcast_S2x4x2048x1_S2x4x2048x2048_0_1_2_3
    (select (broadcastInDim S2x4x2048x1 ![0, 1, 2, 3] bcast_S1x1x2048x1_S2x4x2048x1_0_1_2_3 (broadcastInDim S1x1x2048x1 ![2] bcast_S2048_S1x1x2048x1_2 rowKeep))
      (broadcastInDim S2x4x2048x1 ![0, 1, 2] bcast_S2x4x2048_S2x4x2048x1_0_1_2 (rowSum s))
      (broadcastInDim S2x4x2048x1 ![] bcast_S_S2x4x2048x1 (id (constant S_ .f32 0x3F800000#32))))

/-- The quotients. -/
def quots : FVec Ideal S2x4x2048x2048 .f32 := Host.divf (exps s) (denom s)

/-- The weights. -/
def weights : FVec Ideal S2x4x2048x2048 .f32 :=
  select (broadcastInDim S2x4x2048x2048 ![0, 1, 2, 3] bcast_S1x1x2048x1_S2x4x2048x2048_0_1_2_3 (broadcastInDim S1x1x2048x1 ![2] bcast_S2048_S1x1x2048x1_2 rowKeep))
    (quots s)
    (broadcastInDim S2x4x2048x2048 ![] bcast_S_S2x4x2048x2048 (id (constant S_ .f32 0x00000000#32)))

/-- The weighted values through the output weights. -/
def project : FVec Ideal S2x2048x512 .f32 :=
  Host.dotGeneral dot_S2x2048x256_S256x512_S2x2048x512_2_0_01_1_n_n none
    (shapeCast S2x2048x256 (transpose S2x2048x4x64 [0, 3, 1, 2]
      (Host.dotGeneral dot_S2x2048x4x64_S2x4x2048x2048_S2x4x64x2048_1_3_3_2_02_01 none (extf .f32 v bitsLt_bf16_f32) w)
      transposes_S2x4x64x2048_S2x2048x4x64_0_3_1_2 : FVec Ideal S2x2048x4x64 .f32) shapeCasts_S2x2048x4x64_S2x2048x256 : FVec Ideal S2x2048x256 .f32)
    (extf .f32 wo bitsLt_bf16_f32)

end Stages

set_option maxRecDepth 8192 in
/-- The reference's result is these stages in turn. -/
theorem res_stages (m : (ℓ : Loc nD τ sig) → Buf (Elt Ideal) ℓ) (c : Dev nD) :
    Cert.ReferenceIdeal.Value.res_main_v38 m c
      = project (m ((c.tc : Thread nD τ).loc main_arg3)) (m ((c.tc : Thread nD τ).loc main_arg4))
          (weights (scores (m ((c.tc : Thread nD τ).loc main_arg0)) (m ((c.tc : Thread nD τ).loc main_arg1)) (m ((c.tc : Thread nD τ).loc main_arg2)))) := rfl

/-! ## The mask -/

/-- Division by 64 rounded down, as the reference spells it, of a word below 2048. -/
theorem blockNo_apply (i : Fin 2048) : blockNo (ix1 i) = BitVec.ofNat 32 (i.val / 64) := by
  pointwise [blockNo, id_eq]
  revert i
  decide +kernel

/-- Comparing two block numbers as words is comparing them as numbers. -/
theorem sle_small : ∀ a b : Fin 64, IntOp.cmpi .sle (BitVec.ofNat 32 a.val) (BitVec.ofNat 32 b.val) = if a.val ≤ b.val then 1#1 else 0#1 := by
  decide +kernel

/-- The reference's mask at row `i`, column `j`: set where the column's block of 64 is not after the row's. -/
theorem keep_apply (i j : Fin 2048) : keep (ix2 i j) = if j.val / 64 ≤ i.val / 64 then 1#1 else 0#1 := by
  pointwise [keep]
  rw [blockNo_apply, blockNo_apply]
  exact sle_small ⟨j.val / 64, by omega⟩ ⟨i.val / 64, by omega⟩

/-- A disjunction of bits of which one is set is set. -/
theorem fold_ori {ι : Type} [DecidableEq ι] (f : ι → BitVec 1) (S : Finset ι) {k : ι} (hk : k ∈ S) (h : f k = 1#1) : S.fold IntOp.ori 0#1 f = 1#1 := by
  rw [← Finset.insert_erase hk, Finset.fold_insert (Finset.notMem_erase k S), h]
  exact (by decide : ∀ b : BitVec 1, IntOp.ori 1#1 b = 1#1) _

/-- Every row keeps its own column. -/
theorem rowKeep_apply (i : Fin 2048) : rowKeep (ix1 i) = 1#1 := by
  pointwise [rowKeep]
  exact fold_ori _ _ (Finset.mem_univ i) (by rw [keep_apply, if_pos le_rfl])

/-! ## The stages at an index -/

/-- The fill of the masked scores is −∞. -/
theorem ofBits_mask : Ideal.ofBits .f32 0xFF800000#32 = (⊥ : EReal) := by
  simp [Ideal.ofBits, Ideal.ieee]

section Apply

variable (x : FVec Ideal S2x2048x512 .bf16) (wq : FVec Ideal S512x256 .bf16) (k v : FVec Ideal S2x2048x4x64 .bf16) (wo : FVec Ideal S256x512 .bf16)
  (s w : FVec Ideal S2x4x2048x2048 .f32) (b : Fin 2) (h : Fin 4) (i j : Fin 2048)

open Cert.Attention

/-- The reference's masked scores are those of `Spec`. -/
theorem scores_apply : scores x wq k (ix4 b h i j) = score x wq k b h i j := by
  pointwise [scores, id_eq]
  rw [keep_apply]
  unfold score
  by_cases hj : j.val / 64 ≤ i.val / 64
  · rw [if_pos hj, if_pos hj]
    rfl
  · rw [if_neg hj, if_neg hj]
    exact ofBits_mask

/-- The last axis is the one the maximum is taken over. -/
theorem reduces_last : S2x4x2048x2048.Reduces [3] S2x4x2048 := by decide

/-- The row maxima, read at a row. -/
theorem rowMax_apply : rowMax s (ix3 b h i) = top fun y => (s (ix4 b h i y) : EReal) := by
  unfold rowMax
  refine (Host.reduce_eq_fold_single (FloatOps.maximumf (F := Ideal) (φ := .f32)) s (constant S_ .f32 0xFF800000#32)
    reducesTo_S2x4x2048x2048_S2x4x2048_d3 reduces_last h_S_ (ix3 b h i)).trans ?_
  have e : ∀ y : Fin 2048, reduces_last.lift (ix3 b h i) y = ix4 b h i y := fun y => by
    funext a
    fin_cases a <;> rfl
  unfold top
  rw [← ofBits_mask]
  exact Finset.fold_congr fun y _ => congrArg s (e y)

/-- The row maxima, spread over the columns again. -/
theorem rowMaxB_apply : rowMaxB s (ix4 b h i j) = top fun y => (s (ix4 b h i y) : EReal) := by
  pointwise [rowMaxB]
  exact rowMax_apply s b h i

/-- The exponentials of the scores less their row's maximum. -/
theorem exps_apply : exps s (ix4 b h i j) = Ideal.exp ((s (ix4 b h i j) : EReal) - top fun y => (s (ix4 b h i y) : EReal)) := by
  show Ideal.exp ((s (ix4 b h i j) : EReal) - rowMaxB s (ix4 b h i j)) = _
  rw [rowMaxB_apply]

/-- A choice under a true bit. -/
theorem select_one {α : Type} (a b : α) : Scalar.select 1#1 a b = a := rfl

/-- The row sums of the exponentials. -/
theorem rowSum_apply : rowSum s (ix3 b h i) = ∑ y, Ideal.exp ((s (ix4 b h i y) : EReal) - top fun y => (s (ix4 b h i y) : EReal)) := by
  pointwise [rowSum]
  exact Finset.sum_congr rfl fun y _ => exps_apply s b h i y

/-- The divisor is the row's sum: every row has an unmasked column. -/
theorem denom_apply : denom s (ix4 b h i j) = rowSum s (ix3 b h i) := by
  pointwise [denom, id_eq]
  rw [rowKeep_apply]
  exact select_one _ _

/-- A quotient of arrays at an index. -/
theorem divf_at {S : Shape} (a d : FVec Ideal S .f32) (o : S.Idx) : Host.divf a d o = Ideal.div (a o) (d o) := rfl

/-- The quotients are the weights of `Spec`. -/
theorem quots_apply : quots s (ix4 b h i j) = weight (fun y => (s (ix4 b h i y) : EReal)) j := by
  unfold quots
  rw [divf_at, denom_apply, rowSum_apply, exps_apply]
  rfl

/-- The last selection keeps every row, so the reference's weights are those of `Spec`. -/
theorem weights_apply : weights s (ix4 b h i j) = weight (fun y => (s (ix4 b h i y) : EReal)) j := by
  pointwise [weights, id_eq]
  rw [rowKeep_apply]
  exact (select_one _ _).trans (quots_apply s b h i j)

/-- The last two products at an index: the weights times the values, then times the output matrix, a sum over the heads. -/
theorem project_apply (n : Fin 512) :
    project v wo w (ix3 b i n) = ∑ h : Fin 4, ∑ d : Fin 64, (∑ y : Fin 2048, (w (ix4 b h i y) : EReal) * (v (ix4 b y h d) : EReal)) * (wo (ix2 (col h d) n) : EReal) := by
  pointwise [project]
  refine (sum_cols _).trans (Finset.sum_congr rfl fun h _ => Finset.sum_congr rfl fun d _ => ?_)
  refine congrArg (· * _) (Finset.sum_congr rfl fun y _ => ?_)
  rw [mul_comm]
  have e1 : (⟨(col h d).val / 64, by omega⟩ : Fin 4) = h := Fin.ext (by show (h.val * 64 + d.val) / 64 = h.val; omega)
  have e2 : (⟨(col h d).val % 64, by omega⟩ : Fin 64) = d := Fin.ext (by show (h.val * 64 + d.val) % 64 = d.val; omega)
  rw [e1, e2]

end Apply

/-- The reference computes the result of the problem. -/
theorem res_apply (m : (ℓ : Loc nD τ sig) → Buf (Elt Ideal) ℓ) (c : Dev nD) (b : Fin 2) (i : Fin 2048) (n : Fin 512) :
    Cert.ReferenceIdeal.Value.res_main_v38 m c (ix3 b i n)
      = Cert.Attention.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b i n := by
  rw [res_stages, project_apply]
  simp only [weights_apply, scores_apply]
  rfl

end Cert.ReferenceValue
-- ==== Proof.Algebraic.lean ====
/-
# The kernel computes the reference

The precondition makes `X`, `Wq` and `K` finite; both programs then compute the result of the problem.
-/
module

public import proofs.«01_k».proof.Defs
public import proofs.«01_k».proof.Proof.Gen.Pre_finite_KernelIdeal
public import proofs.«01_k».proof.Proof.Frames
public import proofs.«01_k».proof.Proof.KernelValue
public import proofs.«01_k».proof.Proof.RefValue
public import Idealize.ShloMosaic.Lib.ReduceAll

@[expose] public section

noncomputable section

namespace Cert.Algebraic

open Idealize.ShloMosaic Idealize.ShloMosaic.TcCoe Idealize.SL.Sem
open Cert.Attention

/-- A value whose absolute value is below `+∞` is finite. -/
theorem fin_of_abs {S : Shape} (x : FVec Ideal S .bf16) (hb : FTy.bits .bf16 < FTy.bits .f32) (top : FVec Ideal S .f32)
    (ht : ∀ i, top i = Ideal.ofBits .f32 0x7F800000#32) (i : S.Idx)
    (e : cmpf .olt (Host.absf (extf .f32 x hb : FVec Ideal S .f32)) top i = 1#1) : IsFin (x i : EReal) := by
  have h1 : BitVec.ofBool (decide (max (x i : EReal) (-(x i : EReal)) < top i)) = 1#1 := e
  have h2 : max (x i : EReal) (-(x i : EReal)) < top i := by
    by_contra hn
    rw [decide_eq_false hn] at h1
    exact absurd h1 (by decide)
  have h3 : Ideal.ofBits .f32 0x7F800000#32 = (⊤ : EReal) := by simp [Ideal.ofBits, Ideal.ieee]
  rw [ht, h3] at h2
  refine ⟨fun hx => ?_, fun hx => ?_⟩
  · rw [hx] at h2
    exact absurd h2 (by simp)
  · rw [hx] at h2
    exact absurd h2 (by simp)

/-- The precondition, read back: every element of a device's `x`, `wq` and keys is finite. -/
theorem finite_of_pre (x : FVec Ideal ⟨3, ![2, 128, 512]⟩ .bf16) (wq : FVec Ideal ⟨2, ![512, 256]⟩ .bf16) (k v : FVec Ideal ⟨4, ![2, 128, 4, 64]⟩ .bf16)
    (wo : FVec Ideal ⟨2, ![256, 512]⟩ .bf16) (h : Cert.Pre_finite_KernelIdeal.fn (F := Ideal) x wq k v wo = fun _ => 1#1) :
    (∀ i, IsFin (x i : EReal)) ∧ (∀ i, IsFin (wq i : EReal)) ∧ (∀ i, IsFin (k i : EReal)) := by
  have h0 := congrFun h ix0
  dsimp only [Cert.Pre_finite_KernelIdeal.fn] at h0
  obtain ⟨h12, h3⟩ := IntOp.andi_eq_one.1 h0
  obtain ⟨h1, h2⟩ := IntOp.andi_eq_one.1 h12
  exact ⟨fun i => fin_of_abs x _ _ (fun _ => rfl) i (Host.reduce_andi_all _ _ _ _ ix0 h1 i),
    fun i => fin_of_abs wq _ _ (fun _ => rfl) i (Host.reduce_andi_all _ _ _ _ ix0 h2 i),
    fun i => fin_of_abs k _ _ (fun _ => rfl) i (Host.reduce_andi_all _ _ _ _ ix0 h3 i)⟩

/-- Every row of the whole array is some device's. -/
theorem exists_row (i : Fin 2048) : ∃ (c : Dev Cert.KernelIdeal.nD) (r : Fin 128), Cert.KernelIdealProof.rowOf c r = i :=
  ⟨⟨i.val / 128, by have := i.isLt; show _ < 16; omega⟩, ⟨i.val % 128, by omega⟩, Fin.ext (by show i.val / 128 * 128 + i.val % 128 = i.val; omega)⟩

/-- The two programs, over the extended reals, compute one thing. -/
theorem algebraic : Cert.algebraic_KernelIdeal_ReferenceIdeal_pre_finite_KernelIdeal := by
  intro m g m' g' hpre hargs
  let X : FVec Ideal ⟨3, ![2, 2048, 512]⟩ .bf16 := m' (((0 : Dev Cert.ReferenceIdeal.nD).tc : Thread Cert.ReferenceIdeal.nD Cert.ReferenceIdeal.τ).loc Cert.ReferenceIdeal.main_arg0)
  let Wq : FVec Ideal ⟨2, ![512, 256]⟩ .bf16 := m' (((0 : Dev Cert.ReferenceIdeal.nD).tc : Thread Cert.ReferenceIdeal.nD Cert.ReferenceIdeal.τ).loc Cert.ReferenceIdeal.main_arg1)
  let K : FVec Ideal ⟨4, ![2, 2048, 4, 64]⟩ .bf16 := m' (((0 : Dev Cert.ReferenceIdeal.nD).tc : Thread Cert.ReferenceIdeal.nD Cert.ReferenceIdeal.τ).loc Cert.ReferenceIdeal.main_arg2)
  let V : FVec Ideal ⟨4, ![2, 2048, 4, 64]⟩ .bf16 := m' (((0 : Dev Cert.ReferenceIdeal.nD).tc : Thread Cert.ReferenceIdeal.nD Cert.ReferenceIdeal.τ).loc Cert.ReferenceIdeal.main_arg3)
  let Wo : FVec Ideal ⟨2, ![256, 512]⟩ .bf16 := m' (((0 : Dev Cert.ReferenceIdeal.nD).tc : Thread Cert.ReferenceIdeal.nD Cert.ReferenceIdeal.τ).loc Cert.ReferenceIdeal.main_arg4)
  have hp : Cert.KernelIdealProof.Parts m X Wq K V Wo :=
    ⟨fun c => (hargs c).1, fun c => (hargs c).2.1, fun c => (hargs c).2.2.1, fun c => (hargs c).2.2.2.1, fun c => (hargs c).2.2.2.2⟩
  have hf := fun c => finite_of_pre _ _ _ _ _ (hpre c)
  have hX : ∀ j, IsFin (X j : EReal) := fun j => by
    obtain ⟨c, r, e⟩ := exists_row (j 1)
    have h := (hf c).1 (ix3 (j 0) r (j 2))
    rw [hp.x c] at h
    have h' := (Cert.KernelIdealProof.block3 X c (j 0) r (j 2)) ▸ h
    rw [e, ← eq_ix3 j] at h'
    exact h'
  have hW : ∀ j, IsFin (Wq j : EReal) := fun j => by
    have h := (hf 0).2.1 j
    rw [hp.wq 0] at h
    exact h
  have hK : ∀ j, IsFin (K j : EReal) := fun j => by
    obtain ⟨c, r, e⟩ := exists_row (j 1)
    have h := (hf c).2.2 (ix4 (j 0) r (j 2) (j 3))
    rw [hp.k c] at h
    have h' := (Cert.KernelIdealProof.block4 K c (j 0) r (j 2) (j 3)) ▸ h
    rw [e, ← eq_ix4 j] at h'
    exact h'
  refine ⟨Cert.ReferenceIdeal.Value.res_main_v38 m' 0, ?_, ?_⟩
  · refine (θ_run Cert.KernelIdeal.defs _ _).mono (fun r h c => ⟨?_, Cert.KernelIdealProof.args_of_QC m g h.1 c⟩)
      (Cert.KernelIdealProof.run_main (F := Ideal) m g)
    refine ((h.1 c (5 : Fin 6)).trans (Cert.KernelIdealProof.finalA_out m g c)).trans ?_
    funext i
    have hi : i = ix3 (i 0) (i 1) (i 2) := eq_ix3 i
    rw [hi]
    refine (Cert.KernelIdealProof.outAt_eq g hp hX hW hK c (i 0) (i 1) (i 2)).trans ?_
    refine Eq.symm ((Cert.KernelIdealProof.block3 _ c (i 0) (i 1) (i 2)).trans ?_)
    exact Cert.ReferenceValue.res_apply m' 0 (i 0) (Cert.KernelIdealProof.rowOf c (i 1)) (i 2)
  · exact (θ_run Cert.ReferenceIdeal.defs _ _).mono (fun r h => h 0) (Cert.ReferenceIdeal.Value.run (F := Ideal) m' g')

end Cert.Algebraic
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_finite_KernelIdeal
public import proofs.«01_k».proof.Proof.Gen.Pre_finite_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, changes no argument, and has no semaphore to leave raised. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The one word the kernel's reading over the extended reals replaces: the mask's −10⁹ is named −∞. -/
theorem preserved : Cert.preserves_Kernel_KernelIdeal :=
  IdealRules.named_const.statement Cert.KernelIdeal.κ "mask" .f32 0xCE6E6B28#32 ⊥ rfl

/-- The frames also under the precondition, which they do not need. -/
theorem frame_kernelIdeal_pre : Cert.quiescent_KernelIdeal_pre_finite_KernelIdeal :=
  fun m ρ _ => Cert.KernelIdealProof.frame_kernelIdeal m ρ trivial

/-- The same of the reference. -/
theorem frame_reference_pre : Cert.quiescent_ReferenceIdeal_pre_finite_ReferenceIdeal :=
  fun m ρ _ => frame_reference m ρ trivial

/-- Everything the certificate claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    Cert.KernelIdealProof.frame_kernel, Cert.KernelIdealProof.frame_kernelIdeal, frame_kernelIdeal_pre, frame_reference, frame_reference_pre,
    preserved, Cert.Algebraic.algebraic⟩

end Cert.Proof

end
